-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![8192, 1024]⟩ ⟨2, ![32768, 1024]⟩ (Layout.meshBlock [2, 2, 4] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x1024 : Shape := ⟨2, ![8192, 1024]⟩
abbrev S32768x1024 : Shape := ⟨2, ![32768, 1024]⟩
abbrev S2048x1024 : Shape := ⟨2, ![2048, 1024]⟩
abbrev S_ : Shape := ⟨0, ![]⟩
abbrev S3 : Shape := ⟨1, ![3]⟩
abbrev S3x3 : Shape := ⟨2, ![3, 3]⟩
abbrev S1 : Shape := ⟨1, ![1]⟩
abbrev S1x1 : Shape := ⟨2, ![1, 1]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S32768x1024, .bf16⟩
  | .local _ .vmem, ⟨0, _⟩ => ⟨S2048x1024, .f32⟩
  | .local _ .vmem, ⟨1, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c2048_i32 : BitVec 32 := 2048#32
  let v115 : BitVec 32 := Scalar.muli v34 c2048_i32
  let c0_i32_58 : BitVec 32 := 0#32
  ![v115.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v114 : BitVec 32 := Scalar.muli v8 c8192_i32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c2048_i32_63 : BitVec 32 := 2048#32
  let v123 : BitVec 32 := Scalar.muli v34 c2048_i32_63
  let v124 : BitVec 32 := Scalar.addi v114 v123
  let c0_i32_64 : BitVec 32 := 0#32
  ![v124.toNat, 0]
def k0_dev1 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v128 : BitVec 32 := Scalar.muli v2 c8_i32_67
  let v129 : BitVec 32 := Scalar.addi c0_i32_68 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v130 : BitVec 32 := Scalar.muli v5 c4_i32_69
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_70 : BitVec 32 := 1#32
  let v132 : BitVec 32 := Scalar.muli v20 c1_i32_70
  let v133 : BitVec 32 := Scalar.addi v131 v132
  v133.toNat
def k0_dev2 (d0 : Dev nD) : Nat :=
  let c0_i32_73 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_72 : BitVec 32 := 8#32
  let v134 : BitVec 32 := Scalar.muli v102 c8_i32_72
  let v135 : BitVec 32 := Scalar.addi c0_i32_73 v134
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_74 : BitVec 32 := 4#32
  let v136 : BitVec 32 := Scalar.muli v113 c4_i32_74
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v138 : BitVec 32 := Scalar.muli v8 c1_i32_75
  let v139 : BitVec 32 := Scalar.addi v137 v138
  v139.toNat
def k0_dev3 (d0 : Dev nD) : Nat :=
  let c0_i32_78 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_77 : BitVec 32 := 8#32
  let v140 : BitVec 32 := Scalar.muli v74 c8_i32_77
  let v141 : BitVec 32 := Scalar.addi c0_i32_78 v140
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_79 : BitVec 32 := 4#32
  let v142 : BitVec 32 := Scalar.muli v85 c4_i32_79
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v144 : BitVec 32 := Scalar.muli v8 c1_i32_80
  let v145 : BitVec 32 := Scalar.addi v143 v144
  v145.toNat
def k0_off3 (d0 : Dev nD) (c0_i32_82 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_81 : BitVec 32 := 4#32
  let v146 : BitVec 32 := Scalar.addi v8 c4_i32_81
  let v147 : BitVec 32 := Scalar.subi v146 c0_i32_82
  let c4_i32_83 : BitVec 32 := 4#32
  let c0_i32_84 : BitVec 32 := 0#32
  let v148 : BitVec 1 := Scalar.cmpi .eq c4_i32_83 c0_i32_84
  let c1_i32_85 : BitVec 32 := 1#32
  let v149 : BitVec 32 := Scalar.select v148 c1_i32_85 c4_i32_83
  let v150 : BitVec 32 := Scalar.remsi v147 v149
  let c0_i32_87 : BitVec 32 := 0#32
  let v152 : BitVec 1 := Scalar.cmpi .slt v150 c0_i32_87
  let c0_i32_88 : BitVec 32 := 0#32
  let v153 : BitVec 1 := Scalar.cmpi .slt v149 c0_i32_88
  let v154 : BitVec 1 := Scalar.xori v152 v153
  let c0_i32_86 : BitVec 32 := 0#32
  let v151 : BitVec 1 := Scalar.cmpi .ne v150 c0_i32_86
  let v155 : BitVec 1 := Scalar.andi v154 v151
  let v156 : BitVec 32 := Scalar.addi v150 v149
  let v157 : BitVec 32 := Scalar.select v155 v156 v150
  let c8192_i32_89 : BitVec 32 := 8192#32
  let v158 : BitVec 32 := Scalar.muli v157 c8192_i32_89
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c2048_i32_90 : BitVec 32 := 2048#32
  let v159 : BitVec 32 := Scalar.muli v34 c2048_i32_90
  let v160 : BitVec 32 := Scalar.addi v158 v159
  let c0_i32_97 : BitVec 32 := 0#32
  ![v160.toNat, 0]
def k0_dev4 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v161 : BitVec 32 := Scalar.muli v2 c8_i32_93
  let v162 : BitVec 32 := Scalar.addi c0_i32_94 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v163 : BitVec 32 := Scalar.muli v5 c4_i32_95
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_96 : BitVec 32 := 1#32
  let v165 : BitVec 32 := Scalar.muli v31 c1_i32_96
  let v166 : BitVec 32 := Scalar.addi v164 v165
  v166.toNat
def k0_off4 (d0 : Dev nD) (c1_i32_99 : BitVec 32) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let v173 : BitVec 32 := Scalar.addi v34 c1_i32_99
  let c4_i32_100 : BitVec 32 := 4#32
  let c0_i32_101 : BitVec 32 := 0#32
  let v174 : BitVec 1 := Scalar.cmpi .eq c4_i32_100 c0_i32_101
  let c1_i32_102 : BitVec 32 := 1#32
  let v175 : BitVec 32 := Scalar.select v174 c1_i32_102 c4_i32_100
  let v176 : BitVec 32 := Scalar.remsi v173 v175
  let c0_i32_104 : BitVec 32 := 0#32
  let v178 : BitVec 1 := Scalar.cmpi .slt v176 c0_i32_104
  let c0_i32_105 : BitVec 32 := 0#32
  let v179 : BitVec 1 := Scalar.cmpi .slt v175 c0_i32_105
  let v180 : BitVec 1 := Scalar.xori v178 v179
  let c0_i32_103 : BitVec 32 := 0#32
  let v177 : BitVec 1 := Scalar.cmpi .ne v176 c0_i32_103
  let v181 : BitVec 1 := Scalar.andi v180 v177
  let v182 : BitVec 32 := Scalar.addi v176 v175
  let v183 : BitVec 32 := Scalar.select v181 v182 v176
  let c2048_i32_106 : BitVec 32 := 2048#32
  let v184 : BitVec 32 := Scalar.muli v183 c2048_i32_106
  let c0_i32_107 : BitVec 32 := 0#32
  ![v184.toNat, 0]
def k0_off5 (d0 : Dev nD) (c1_i32_99 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v114 : BitVec 32 := Scalar.muli v8 c8192_i32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let v173 : BitVec 32 := Scalar.addi v34 c1_i32_99
  let c4_i32_100 : BitVec 32 := 4#32
  let c0_i32_101 : BitVec 32 := 0#32
  let v174 : BitVec 1 := Scalar.cmpi .eq c4_i32_100 c0_i32_101
  let c1_i32_102 : BitVec 32 := 1#32
  let v175 : BitVec 32 := Scalar.select v174 c1_i32_102 c4_i32_100
  let v176 : BitVec 32 := Scalar.remsi v173 v175
  let c0_i32_104 : BitVec 32 := 0#32
  let v178 : BitVec 1 := Scalar.cmpi .slt v176 c0_i32_104
  let c0_i32_105 : BitVec 32 := 0#32
  let v179 : BitVec 1 := Scalar.cmpi .slt v175 c0_i32_105
  let v180 : BitVec 1 := Scalar.xori v178 v179
  let c0_i32_103 : BitVec 32 := 0#32
  let v177 : BitVec 1 := Scalar.cmpi .ne v176 c0_i32_103
  let v181 : BitVec 1 := Scalar.andi v180 v177
  let v182 : BitVec 32 := Scalar.addi v176 v175
  let v183 : BitVec 32 := Scalar.select v181 v182 v176
  let c2048_i32_113 : BitVec 32 := 2048#32
  let v192 : BitVec 32 := Scalar.muli v183 c2048_i32_113
  let v193 : BitVec 32 := Scalar.addi v114 v192
  let c0_i32_114 : BitVec 32 := 0#32
  ![v193.toNat, 0]
def k0_dev5 (d0 : Dev nD) : Nat :=
  let c0_i32_185 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_184 : BitVec 32 := 8#32
  let v284 : BitVec 32 := Scalar.muli v2 c8_i32_184
  let v285 : BitVec 32 := Scalar.addi c0_i32_185 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v286 : BitVec 32 := Scalar.muli v5 c4_i32_186
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_187 : BitVec 32 := 1#32
  let v288 : BitVec 32 := Scalar.muli v31 c1_i32_187
  let v289 : BitVec 32 := Scalar.addi v287 v288
  v289.toNat
def k0_off6 (d0 : Dev nD) (c0_i32_165 : BitVec 32) (c0_i32_191 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_163 : BitVec 32 := 4#32
  let v256 : BitVec 32 := Scalar.addi v8 c4_i32_163
  let c1_i32_164 : BitVec 32 := 1#32
  let v257 : BitVec 32 := Scalar.subi v256 c1_i32_164
  let v258 : BitVec 32 := Scalar.subi v257 c0_i32_165
  let c4_i32_166 : BitVec 32 := 4#32
  let c0_i32_167 : BitVec 32 := 0#32
  let v259 : BitVec 1 := Scalar.cmpi .eq c4_i32_166 c0_i32_167
  let c1_i32_168 : BitVec 32 := 1#32
  let v260 : BitVec 32 := Scalar.select v259 c1_i32_168 c4_i32_166
  let v261 : BitVec 32 := Scalar.remsi v258 v260
  let c0_i32_170 : BitVec 32 := 0#32
  let v263 : BitVec 1 := Scalar.cmpi .slt v261 c0_i32_170
  let c0_i32_171 : BitVec 32 := 0#32
  let v264 : BitVec 1 := Scalar.cmpi .slt v260 c0_i32_171
  let v265 : BitVec 1 := Scalar.xori v263 v264
  let c0_i32_169 : BitVec 32 := 0#32
  let v262 : BitVec 1 := Scalar.cmpi .ne v261 c0_i32_169
  let v266 : BitVec 1 := Scalar.andi v265 v262
  let v267 : BitVec 32 := Scalar.addi v261 v260
  let v268 : BitVec 32 := Scalar.select v266 v267 v261
  let c8192_i32_205 : BitVec 32 := 8192#32
  let v319 : BitVec 32 := Scalar.muli v268 c8192_i32_205
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_190 : BitVec 32 := 4#32
  let v296 : BitVec 32 := Scalar.addi v34 c4_i32_190
  let v297 : BitVec 32 := Scalar.subi v296 c0_i32_191
  let c4_i32_192 : BitVec 32 := 4#32
  let c0_i32_193 : BitVec 32 := 0#32
  let v298 : BitVec 1 := Scalar.cmpi .eq c4_i32_192 c0_i32_193
  let c1_i32_194 : BitVec 32 := 1#32
  let v299 : BitVec 32 := Scalar.select v298 c1_i32_194 c4_i32_192
  let v300 : BitVec 32 := Scalar.remsi v297 v299
  let c0_i32_196 : BitVec 32 := 0#32
  let v302 : BitVec 1 := Scalar.cmpi .slt v300 c0_i32_196
  let c0_i32_197 : BitVec 32 := 0#32
  let v303 : BitVec 1 := Scalar.cmpi .slt v299 c0_i32_197
  let v304 : BitVec 1 := Scalar.xori v302 v303
  let c0_i32_195 : BitVec 32 := 0#32
  let v301 : BitVec 1 := Scalar.cmpi .ne v300 c0_i32_195
  let v305 : BitVec 1 := Scalar.andi v304 v301
  let v306 : BitVec 32 := Scalar.addi v300 v299
  let v307 : BitVec 32 := Scalar.select v305 v306 v300
  let c2048_i32_206 : BitVec 32 := 2048#32
  let v320 : BitVec 32 := Scalar.muli v307 c2048_i32_206
  let v321 : BitVec 32 := Scalar.addi v319 v320
  let c0_i32_217 : BitVec 32 := 0#32
  ![v321.toNat, 0]
def k0_dev6 (d0 : Dev nD) : Nat :=
  let c0_i32_214 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_213 : BitVec 32 := 8#32
  let v326 : BitVec 32 := Scalar.muli v74 c8_i32_213
  let v327 : BitVec 32 := Scalar.addi c0_i32_214 v326
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_215 : BitVec 32 := 4#32
  let v328 : BitVec 32 := Scalar.muli v85 c4_i32_215
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v330 : BitVec 32 := Scalar.muli v8 c1_i32_216
  let v331 : BitVec 32 := Scalar.addi v329 v330
  v331.toNat
def k0_off7 (d0 : Dev nD) (c0_i32_165 : BitVec 32) (c0_i32_198 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_163 : BitVec 32 := 4#32
  let v256 : BitVec 32 := Scalar.addi v8 c4_i32_163
  let c1_i32_164 : BitVec 32 := 1#32
  let v257 : BitVec 32 := Scalar.subi v256 c1_i32_164
  let v258 : BitVec 32 := Scalar.subi v257 c0_i32_165
  let c4_i32_166 : BitVec 32 := 4#32
  let c0_i32_167 : BitVec 32 := 0#32
  let v259 : BitVec 1 := Scalar.cmpi .eq c4_i32_166 c0_i32_167
  let c1_i32_168 : BitVec 32 := 1#32
  let v260 : BitVec 32 := Scalar.select v259 c1_i32_168 c4_i32_166
  let v261 : BitVec 32 := Scalar.remsi v258 v260
  let c0_i32_170 : BitVec 32 := 0#32
  let v263 : BitVec 1 := Scalar.cmpi .slt v261 c0_i32_170
  let c0_i32_171 : BitVec 32 := 0#32
  let v264 : BitVec 1 := Scalar.cmpi .slt v260 c0_i32_171
  let v265 : BitVec 1 := Scalar.xori v263 v264
  let c0_i32_169 : BitVec 32 := 0#32
  let v262 : BitVec 1 := Scalar.cmpi .ne v261 c0_i32_169
  let v266 : BitVec 1 := Scalar.andi v265 v262
  let v267 : BitVec 32 := Scalar.addi v261 v260
  let v268 : BitVec 32 := Scalar.select v266 v267 v261
  let c8192_i32_207 : BitVec 32 := 8192#32
  let v322 : BitVec 32 := Scalar.muli v268 c8192_i32_207
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let v308 : BitVec 32 := Scalar.addi v34 c0_i32_198
  let c4_i32_199 : BitVec 32 := 4#32
  let c0_i32_200 : BitVec 32 := 0#32
  let v309 : BitVec 1 := Scalar.cmpi .eq c4_i32_199 c0_i32_200
  let c1_i32_201 : BitVec 32 := 1#32
  let v310 : BitVec 32 := Scalar.select v309 c1_i32_201 c4_i32_199
  let v311 : BitVec 32 := Scalar.remsi v308 v310
  let c0_i32_203 : BitVec 32 := 0#32
  let v313 : BitVec 1 := Scalar.cmpi .slt v311 c0_i32_203
  let c0_i32_204 : BitVec 32 := 0#32
  let v314 : BitVec 1 := Scalar.cmpi .slt v310 c0_i32_204
  let v315 : BitVec 1 := Scalar.xori v313 v314
  let c0_i32_202 : BitVec 32 := 0#32
  let v312 : BitVec 1 := Scalar.cmpi .ne v311 c0_i32_202
  let v316 : BitVec 1 := Scalar.andi v315 v312
  let v317 : BitVec 32 := Scalar.addi v311 v310
  let v318 : BitVec 32 := Scalar.select v316 v317 v311
  let c2048_i32_208 : BitVec 32 := 2048#32
  let v323 : BitVec 32 := Scalar.muli v318 c2048_i32_208
  let v324 : BitVec 32 := Scalar.addi v322 v323
  let c1024_i32 : BitVec 32 := 1024#32
  let v325 : BitVec 32 := Scalar.addi v324 c1024_i32
  let c0_i32_227 : BitVec 32 := 0#32
  ![v325.toNat, 0]
def k0_dev7 (d0 : Dev nD) : Nat :=
  let c0_i32_224 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_223 : BitVec 32 := 8#32
  let v338 : BitVec 32 := Scalar.muli v102 c8_i32_223
  let v339 : BitVec 32 := Scalar.addi c0_i32_224 v338
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_225 : BitVec 32 := 4#32
  let v340 : BitVec 32 := Scalar.muli v113 c4_i32_225
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v342 : BitVec 32 := Scalar.muli v8 c1_i32_226
  let v343 : BitVec 32 := Scalar.addi v341 v342
  v343.toNat
def k0_dev8 (d0 : Dev nD) : Nat :=
  let c0_i32_288 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_287 : BitVec 32 := 8#32
  let v408 : BitVec 32 := Scalar.muli v74 c8_i32_287
  let v409 : BitVec 32 := Scalar.addi c0_i32_288 v408
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_289 : BitVec 32 := 4#32
  let v410 : BitVec 32 := Scalar.muli v85 c4_i32_289
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v412 : BitVec 32 := Scalar.muli v8 c1_i32_290
  let v413 : BitVec 32 := Scalar.addi v411 v412
  v413.toNat
def k0_dev9 (d0 : Dev nD) : Nat :=
  let c0_i32_298 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_297 : BitVec 32 := 8#32
  let v420 : BitVec 32 := Scalar.muli v102 c8_i32_297
  let v421 : BitVec 32 := Scalar.addi c0_i32_298 v420
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_299 : BitVec 32 := 4#32
  let v422 : BitVec 32 := Scalar.muli v113 c4_i32_299
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300 : BitVec 32 := 1#32
  let v424 : BitVec 32 := Scalar.muli v8 c1_i32_300
  let v425 : BitVec 32 := Scalar.addi v423 v424
  v425.toNat
def k0_dev10 (d0 : Dev nD) : Nat :=
  let c0_i32_362 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_361 : BitVec 32 := 8#32
  let v490 : BitVec 32 := Scalar.muli v74 c8_i32_361
  let v491 : BitVec 32 := Scalar.addi c0_i32_362 v490
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_363 : BitVec 32 := 4#32
  let v492 : BitVec 32 := Scalar.muli v85 c4_i32_363
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v494 : BitVec 32 := Scalar.muli v8 c1_i32_364
  let v495 : BitVec 32 := Scalar.addi v493 v494
  v495.toNat
def k0_dev11 (d0 : Dev nD) : Nat :=
  let c0_i32_372 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_371 : BitVec 32 := 8#32
  let v502 : BitVec 32 := Scalar.muli v102 c8_i32_371
  let v503 : BitVec 32 := Scalar.addi c0_i32_372 v502
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_373 : BitVec 32 := 4#32
  let v504 : BitVec 32 := Scalar.muli v113 c4_i32_373
  let v505 : BitVec 32 := Scalar.addi v503 v504
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v506 : BitVec 32 := Scalar.muli v8 c1_i32_374
  let v507 : BitVec 32 := Scalar.addi v505 v506
  v507.toNat
def k0_dev12 (d0 : Dev nD) : Nat :=
  let c0_i32_446 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_445 : BitVec 32 := 8#32
  let v584 : BitVec 32 := Scalar.muli v2 c8_i32_445
  let v585 : BitVec 32 := Scalar.addi c0_i32_446 v584
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_447 : BitVec 32 := 4#32
  let v586 : BitVec 32 := Scalar.muli v5 c4_i32_447
  let v587 : BitVec 32 := Scalar.addi v585 v586
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_448 : BitVec 32 := 1#32
  let v588 : BitVec 32 := Scalar.muli v31 c1_i32_448
  let v589 : BitVec 32 := Scalar.addi v587 v588
  v589.toNat
def k0_dev13 (d0 : Dev nD) : Nat :=
  let c0_i32_476 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_475 : BitVec 32 := 8#32
  let v626 : BitVec 32 := Scalar.muli v74 c8_i32_475
  let v627 : BitVec 32 := Scalar.addi c0_i32_476 v626
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_477 : BitVec 32 := 4#32
  let v628 : BitVec 32 := Scalar.muli v85 c4_i32_477
  let v629 : BitVec 32 := Scalar.addi v627 v628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v630 : BitVec 32 := Scalar.muli v8 c1_i32_478
  let v631 : BitVec 32 := Scalar.addi v629 v630
  v631.toNat
def k0_dev14 (d0 : Dev nD) : Nat :=
  let c0_i32_486 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_485 : BitVec 32 := 8#32
  let v638 : BitVec 32 := Scalar.muli v102 c8_i32_485
  let v639 : BitVec 32 := Scalar.addi c0_i32_486 v638
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_487 : BitVec 32 := 4#32
  let v640 : BitVec 32 := Scalar.muli v113 c4_i32_487
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v642 : BitVec 32 := Scalar.muli v8 c1_i32_488
  let v643 : BitVec 32 := Scalar.addi v641 v642
  v643.toNat
def k0_dev15 (d0 : Dev nD) : Nat :=
  let c0_i32_550 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_549 : BitVec 32 := 8#32
  let v708 : BitVec 32 := Scalar.muli v74 c8_i32_549
  let v709 : BitVec 32 := Scalar.addi c0_i32_550 v708
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_551 : BitVec 32 := 4#32
  let v710 : BitVec 32 := Scalar.muli v85 c4_i32_551
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_552 : BitVec 32 := 1#32
  let v712 : BitVec 32 := Scalar.muli v8 c1_i32_552
  let v713 : BitVec 32 := Scalar.addi v711 v712
  v713.toNat
def k0_dev16 (d0 : Dev nD) : Nat :=
  let c0_i32_560 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_559 : BitVec 32 := 8#32
  let v720 : BitVec 32 := Scalar.muli v102 c8_i32_559
  let v721 : BitVec 32 := Scalar.addi c0_i32_560 v720
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_561 : BitVec 32 := 4#32
  let v722 : BitVec 32 := Scalar.muli v113 c4_i32_561
  let v723 : BitVec 32 := Scalar.addi v721 v722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v724 : BitVec 32 := Scalar.muli v8 c1_i32_562
  let v725 : BitVec 32 := Scalar.addi v723 v724
  v725.toNat
def k0_dev17 (d0 : Dev nD) : Nat :=
  let c0_i32_624 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_623 : BitVec 32 := 8#32
  let v790 : BitVec 32 := Scalar.muli v74 c8_i32_623
  let v791 : BitVec 32 := Scalar.addi c0_i32_624 v790
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_625 : BitVec 32 := 4#32
  let v792 : BitVec 32 := Scalar.muli v85 c4_i32_625
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v794 : BitVec 32 := Scalar.muli v8 c1_i32_626
  let v795 : BitVec 32 := Scalar.addi v793 v794
  v795.toNat
def k0_dev18 (d0 : Dev nD) : Nat :=
  let c0_i32_634 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_633 : BitVec 32 := 8#32
  let v802 : BitVec 32 := Scalar.muli v102 c8_i32_633
  let v803 : BitVec 32 := Scalar.addi c0_i32_634 v802
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_635 : BitVec 32 := 4#32
  let v804 : BitVec 32 := Scalar.muli v113 c4_i32_635
  let v805 : BitVec 32 := Scalar.addi v803 v804
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_636 : BitVec 32 := 1#32
  let v806 : BitVec 32 := Scalar.muli v8 c1_i32_636
  let v807 : BitVec 32 := Scalar.addi v805 v806
  v807.toNat
def k0_dev19 (d0 : Dev nD) : Nat :=
  let c0_i32_720 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_719 : BitVec 32 := 8#32
  let v899 : BitVec 32 := Scalar.muli v74 c8_i32_719
  let v900 : BitVec 32 := Scalar.addi c0_i32_720 v899
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_721 : BitVec 32 := 4#32
  let v901 : BitVec 32 := Scalar.muli v85 c4_i32_721
  let v902 : BitVec 32 := Scalar.addi v900 v901
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_722 : BitVec 32 := 1#32
  let v903 : BitVec 32 := Scalar.muli v8 c1_i32_722
  let v904 : BitVec 32 := Scalar.addi v902 v903
  v904.toNat
def k0_dev20 (d0 : Dev nD) : Nat :=
  let c0_i32_730 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_729 : BitVec 32 := 8#32
  let v911 : BitVec 32 := Scalar.muli v102 c8_i32_729
  let v912 : BitVec 32 := Scalar.addi c0_i32_730 v911
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_731 : BitVec 32 := 4#32
  let v913 : BitVec 32 := Scalar.muli v113 c4_i32_731
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v915 : BitVec 32 := Scalar.muli v8 c1_i32_732
  let v916 : BitVec 32 := Scalar.addi v914 v915
  v916.toNat
def k0_dev21 (d0 : Dev nD) : Nat :=
  let c0_i32_794 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_793 : BitVec 32 := 8#32
  let v981 : BitVec 32 := Scalar.muli v74 c8_i32_793
  let v982 : BitVec 32 := Scalar.addi c0_i32_794 v981
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_795 : BitVec 32 := 4#32
  let v983 : BitVec 32 := Scalar.muli v85 c4_i32_795
  let v984 : BitVec 32 := Scalar.addi v982 v983
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_796 : BitVec 32 := 1#32
  let v985 : BitVec 32 := Scalar.muli v8 c1_i32_796
  let v986 : BitVec 32 := Scalar.addi v984 v985
  v986.toNat
def k0_dev22 (d0 : Dev nD) : Nat :=
  let c0_i32_804 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_803 : BitVec 32 := 8#32
  let v993 : BitVec 32 := Scalar.muli v102 c8_i32_803
  let v994 : BitVec 32 := Scalar.addi c0_i32_804 v993
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_805 : BitVec 32 := 4#32
  let v995 : BitVec 32 := Scalar.muli v113 c4_i32_805
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v997 : BitVec 32 := Scalar.muli v8 c1_i32_806
  let v998 : BitVec 32 := Scalar.addi v996 v997
  v998.toNat
def k0_dev23 (d0 : Dev nD) : Nat :=
  let c0_i32_868 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c1_i32_17 : BitVec 32 := 1#32
  let v35 : BitVec 32 := Scalar.addi v34 c1_i32_17
  let c4_i32_18 : BitVec 32 := 4#32
  let c0_i32_19 : BitVec 32 := 0#32
  let v36 : BitVec 1 := Scalar.cmpi .eq c4_i32_18 c0_i32_19
  let c1_i32_20 : BitVec 32 := 1#32
  let v37 : BitVec 32 := Scalar.select v36 c1_i32_20 c4_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c0_i32_33 : BitVec 32 := 0#32
  let v59 : BitVec 1 := Scalar.cmpi .sgt v45 c0_i32_33
  let v60 : BitVec 32 := Scalar.extui v59
  let c0_i32_34 : BitVec 32 := 0#32
  let v61 : BitVec 1 := Scalar.cmpi .slt v45 c0_i32_34
  let v62 : BitVec 32 := Scalar.extui v61
  let v63 : BitVec 32 := Scalar.subi v60 v62
  let c2_i32_32 : BitVec 32 := 2#32
  let c0_i32_35 : BitVec 32 := 0#32
  let v64 : BitVec 1 := Scalar.cmpi .sgt c2_i32_32 c0_i32_35
  let v65 : BitVec 32 := Scalar.extui v64
  let c0_i32_36 : BitVec 32 := 0#32
  let v66 : BitVec 1 := Scalar.cmpi .slt c2_i32_32 c0_i32_36
  let v67 : BitVec 32 := Scalar.extui v66
  let v68 : BitVec 32 := Scalar.subi v65 v67
  let v69 : BitVec 1 := Scalar.cmpi .ne v63 v68
  let v70 : BitVec 32 := Scalar.remsi v45 c2_i32_32
  let c0_i32_37 : BitVec 32 := 0#32
  let v71 : BitVec 1 := Scalar.cmpi .ne v70 c0_i32_37
  let v72 : BitVec 1 := Scalar.andi v69 v71
  let v58 : BitVec 32 := Scalar.divsi v45 c2_i32_32
  let c1_i32_38 : BitVec 32 := 1#32
  let v73 : BitVec 32 := Scalar.subi v58 c1_i32_38
  let v74 : BitVec 32 := Scalar.select v72 v73 v58
  let c8_i32_867 : BitVec 32 := 8#32
  let v1063 : BitVec 32 := Scalar.muli v74 c8_i32_867
  let v1064 : BitVec 32 := Scalar.addi c0_i32_868 v1063
  let c2_i32_39 : BitVec 32 := 2#32
  let c0_i32_40 : BitVec 32 := 0#32
  let v75 : BitVec 1 := Scalar.cmpi .eq c2_i32_39 c0_i32_40
  let c1_i32_41 : BitVec 32 := 1#32
  let v76 : BitVec 32 := Scalar.select v75 c1_i32_41 c2_i32_39
  let v77 : BitVec 32 := Scalar.remsi v45 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let v85 : BitVec 32 := Scalar.xori v74 v84
  let c4_i32_869 : BitVec 32 := 4#32
  let v1065 : BitVec 32 := Scalar.muli v85 c4_i32_869
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_870 : BitVec 32 := 1#32
  let v1067 : BitVec 32 := Scalar.muli v8 c1_i32_870
  let v1068 : BitVec 32 := Scalar.addi v1066 v1067
  v1068.toNat
def k0_dev24 (d0 : Dev nD) : Nat :=
  let c0_i32_878 : BitVec 32 := 0#32
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.xori v2 v5
  let v34 : BitVec 32 := Scalar.addi v32 v33
  let c4_i32_24 : BitVec 32 := 4#32
  let v46 : BitVec 32 := Scalar.addi v34 c4_i32_24
  let c1_i32_25 : BitVec 32 := 1#32
  let v47 : BitVec 32 := Scalar.subi v46 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c0_i32_46 : BitVec 32 := 0#32
  let v87 : BitVec 1 := Scalar.cmpi .sgt v57 c0_i32_46
  let v88 : BitVec 32 := Scalar.extui v87
  let c0_i32_47 : BitVec 32 := 0#32
  let v89 : BitVec 1 := Scalar.cmpi .slt v57 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v57 c2_i32_45
  let c0_i32_50 : BitVec 32 := 0#32
  let v99 : BitVec 1 := Scalar.cmpi .ne v98 c0_i32_50
  let v100 : BitVec 1 := Scalar.andi v97 v99
  let v86 : BitVec 32 := Scalar.divsi v57 c2_i32_45
  let c1_i32_51 : BitVec 32 := 1#32
  let v101 : BitVec 32 := Scalar.subi v86 c1_i32_51
  let v102 : BitVec 32 := Scalar.select v100 v101 v86
  let c8_i32_877 : BitVec 32 := 8#32
  let v1075 : BitVec 32 := Scalar.muli v102 c8_i32_877
  let v1076 : BitVec 32 := Scalar.addi c0_i32_878 v1075
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v57 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let v113 : BitVec 32 := Scalar.xori v102 v112
  let c4_i32_879 : BitVec 32 := 4#32
  let v1077 : BitVec 32 := Scalar.muli v113 c4_i32_879
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_880 : BitVec 32 := 1#32
  let v1079 : BitVec 32 := Scalar.muli v8 c1_i32_880
  let v1080 : BitVec 32 := Scalar.addi v1078 v1079
  v1080.toNat
-- ==== Reference.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Ideal.Flow.lean ====
/-
  The kernel's body as a list of actions.

  The printed body is a long sequence of word arithmetic with about a hundred effects in it. Here those effects are
  written again as a list of actions over a short vocabulary: convert a tile, signal a neighbour, wait for the three
  neighbours, start a remote copy, wait for its departure, wait for its arrival. `body_flow` says that the printed body
  is the run of that list, by unfolding.
-/
module

public import proofs.«01_k».proof.Proof.Gen.KernelIdeal
public import proofs.«01_k».proof.Proof.Gen.KernelIdeal.Skeleton

@[expose] public section

noncomputable section

namespace Cert.KernelIdeal.Gather

open Cert.KernelIdeal.Gen
open Idealize.ShloMosaic Idealize.SL.Sem

variable {F : FTy → Type} [FloatOps F]

/-- The remote copies: up the z ring (`up h`, the h-th hop), clockwise (`cw i k`) and counterclockwise (`ccw i k`)
    around the ring of four in the x-y plane, for the i-th received slab and the k-th hop. -/
inductive Xfer where
  | up (h : Fin 3)
  | cw (i k : Fin 3)
  | ccw (i k : Fin 3)
deriving DecidableEq

/-- The copies in the order the body starts them. -/
def allX : List Xfer :=
  [.up 0,
   .up 1, .cw 0 0, .ccw 0 0, .cw 0 1, .ccw 0 1, .cw 0 2, .ccw 0 2,
   .up 2, .cw 1 0, .ccw 1 0, .cw 1 1, .ccw 1 1, .cw 1 2, .ccw 1 2,
   .cw 2 0, .ccw 2 0, .cw 2 1, .ccw 2 1, .cw 2 2, .ccw 2 2]

/-! ## The memrefs -/

abbrev xM : Memref sig .tc .hbm S8192x1024 .f32 := Memref.whole main_arg0
abbrev oM : Memref sig .tc .hbm S32768x1024 .bf16 := Memref.whole main_v1
abbrev iM : Memref sig .tc .vmem S2048x1024 .f32 := Memref.whole cc0_scratch0
abbrev cM : Memref sig .tc .vmem S2048x1024 .bf16 := Memref.whole cc0_scratch1

abbrev hx : xM.IsWhole := Memref.isWhole_whole _
abbrev ho : oM.IsWhole := Memref.isWhole_whole _
abbrev hi : iM.IsWhole := Memref.isWhole_whole _
abbrev hc : cM.IsWhole := Memref.isWhole_whole _

/-- Where in its input a device's t-th conversion reads, -/
def xOff (d : Dev nD) : Fin 4 → Fin 2 → Nat
  | 0 => k0_off1 d
  | ⟨r + 1, _⟩ => k0_off4 d (BitVec.ofNat 32 (1 + r))
/-- and where in its result it writes. -/
def oOff (d : Dev nD) : Fin 4 → Fin 2 → Nat
  | 0 => k0_off2 d
  | ⟨r + 1, _⟩ => k0_off5 d (BitVec.ofNat 32 (1 + r))

theorem xOff_inb (d : Dev nD) : ∀ (t : Fin 4) (a : Fin 2), xOff d t a + S2048x1024.size a ≤ S8192x1024.size a
  | 0 => Gen.k0_off1_inb d
  | ⟨r + 1, hr⟩ => Gen.k0_off4_inb d ⟨r, by omega⟩
theorem oOff_inb (d : Dev nD) : ∀ (t : Fin 4) (a : Fin 2), oOff d t a + S2048x1024.size a ≤ S32768x1024.size a
  | 0 => Gen.k0_off2_inb d
  | ⟨r + 1, hr⟩ => Gen.k0_off5_inb d ⟨r, by omega⟩

/-- The tile of its input that the t-th conversion reads, -/
abbrev xT (d : Dev nD) (t : Fin 4) : Memref sig .tc .hbm S2048x1024 .f32 :=
  xM.slice (Rect.unit (s := S8192x1024) (xOff d t) S2048x1024.size (xOff_inb d t)) (fun _ => rfl)
/-- and the tile of its result that it writes. -/
abbrev oT (d : Dev nD) (t : Fin 4) : Memref sig .tc .hbm S2048x1024 .bf16 :=
  oM.slice (Rect.unit (s := S32768x1024) (oOff d t) S2048x1024.size (oOff_inb d t)) (fun _ => rfl)

theorem oT_words (d : Dev nD) : ∀ t : Fin 4, (oT d t).view.WordExact
  | 0 => ho.wordExact_slice rfl _ (Gen.k0_off2_wordsbf16 d)
  | ⟨r + 1, hr⟩ => ho.wordExact_slice rfl _ (Gen.k0_off5_wordsbf16 d ⟨r, by omega⟩)

/-- The tile a hop up the z ring moves. -/
abbrev uM (d : Dev nD) (h : Fin 3) : Memref sig .tc .hbm S2048x1024 .bf16 :=
  oM.slice (Rect.unit (s := S32768x1024) (k0_off3 d (BitVec.ofNat 32 h.val)) S2048x1024.size (Gen.k0_off3_inb d h)) (fun _ => rfl)
/-- The half tile a clockwise hop moves. -/
abbrev rM (d : Dev nD) (i k : Fin 3) : Memref sig .tc .hbm S1024x1024 .bf16 :=
  oM.slice (Rect.unit (s := S32768x1024) (k0_off6 d (BitVec.ofNat 32 i.val) (BitVec.ofNat 32 k.val)) S1024x1024.size (Gen.k0_off6_inb d i k)) (fun _ => rfl)
/-- The half tile a counterclockwise hop moves. -/
abbrev lM (d : Dev nD) (i k : Fin 3) : Memref sig .tc .hbm S1024x1024 .bf16 :=
  oM.slice (Rect.unit (s := S32768x1024) (k0_off7 d (BitVec.ofNat 32 i.val) (BitVec.ofNat 32 k.val)) S1024x1024.size (Gen.k0_off7_inb d i k)) (fun _ => rfl)

/-! ## The semaphores -/

theorem inb3 (h : Fin 3) : ∀ a, (![h.val] : Fin 1 → Nat) a + S1.size a ≤ S3.size a := by revert h; decide
theorem inb9 (i k : Fin 3) : ∀ a, (![i.val, k.val] : Fin 2 → Nat) a + S1x1.size a ≤ S3x3.size a := by revert i k; decide

abbrev at3 (A : DmaSems sig S3) (h : Fin 3) : DmaSem sig :=
  ((A.slice (Rect.unit (s := S3) ![h.val] S1.size (inb3 h))).squeeze S_ Gen.squeezes_S1_S_).sem
abbrev at9 (A : DmaSems sig S3x3) (i k : Fin 3) : DmaSem sig :=
  ((A.slice (Rect.unit (s := S3x3) ![i.val, k.val] S1x1.size (inb9 i k))).squeeze S_ Gen.squeezes_S1x1_S_).sem

/-- The semaphore a copy's departure is counted on, on the device that starts it. -/
def sendS : Xfer → DmaSem sig
  | .up h => at3 cc0_scratch3 h
  | .cw i k => at9 cc0_scratch5 i k
  | .ccw i k => at9 cc0_scratch7 i k
/-- The semaphore a copy's arrival is counted on, on the device it arrives at. -/
def recvS : Xfer → DmaSem sig
  | .up h => at3 cc0_scratch4 h
  | .cw i k => at9 cc0_scratch6 i k
  | .ccw i k => at9 cc0_scratch8 i k

/-- The semaphore of a device's copies to and from its own fast memory. -/
abbrev localS : DmaSem sig := (cc0_scratch2 : DmaSems sig S_).sem
/-- The runtime's barrier semaphore. -/
abbrev barS : Sem sig := (SemArray.scalar (sig.barrier 0 rfl) : Sems sig S_).sem

/-! ## The devices named -/

/-- The device that the j-th signal goes to. -/
def sigDev (d : Dev nD) : Fin 3 → Dev nD
  | 0 => ⟨k0_dev1 d, Gen.k0_dev1_lt d⟩
  | 1 => ⟨k0_dev2 d, Gen.k0_dev2_lt d⟩
  | 2 => ⟨k0_dev3 d, Gen.k0_dev3_lt d⟩

/-- The device that a copy goes to, as the body computes it. -/
def xDev (d : Dev nD) : Xfer → Dev nD
  | .up 0 => ⟨k0_dev4 d, Gen.k0_dev4_lt d⟩
  | .up 1 => ⟨k0_dev5 d, Gen.k0_dev5_lt d⟩
  | .cw 0 0 => ⟨k0_dev6 d, Gen.k0_dev6_lt d⟩
  | .ccw 0 0 => ⟨k0_dev7 d, Gen.k0_dev7_lt d⟩
  | .cw 0 1 => ⟨k0_dev8 d, Gen.k0_dev8_lt d⟩
  | .ccw 0 1 => ⟨k0_dev9 d, Gen.k0_dev9_lt d⟩
  | .cw 0 2 => ⟨k0_dev10 d, Gen.k0_dev10_lt d⟩
  | .ccw 0 2 => ⟨k0_dev11 d, Gen.k0_dev11_lt d⟩
  | .up 2 => ⟨k0_dev12 d, Gen.k0_dev12_lt d⟩
  | .cw 1 0 => ⟨k0_dev13 d, Gen.k0_dev13_lt d⟩
  | .ccw 1 0 => ⟨k0_dev14 d, Gen.k0_dev14_lt d⟩
  | .cw 1 1 => ⟨k0_dev15 d, Gen.k0_dev15_lt d⟩
  | .ccw 1 1 => ⟨k0_dev16 d, Gen.k0_dev16_lt d⟩
  | .cw 1 2 => ⟨k0_dev17 d, Gen.k0_dev17_lt d⟩
  | .ccw 1 2 => ⟨k0_dev18 d, Gen.k0_dev18_lt d⟩
  | .cw 2 0 => ⟨k0_dev19 d, Gen.k0_dev19_lt d⟩
  | .ccw 2 0 => ⟨k0_dev20 d, Gen.k0_dev20_lt d⟩
  | .cw 2 1 => ⟨k0_dev21 d, Gen.k0_dev21_lt d⟩
  | .ccw 2 1 => ⟨k0_dev22 d, Gen.k0_dev22_lt d⟩
  | .cw 2 2 => ⟨k0_dev23 d, Gen.k0_dev23_lt d⟩
  | .ccw 2 2 => ⟨k0_dev24 d, Gen.k0_dev24_lt d⟩

/-! ## The actions -/

inductive Act where
  | tile (t : Fin 4)
  | sig (j : Fin 3)
  | bar
  | start (t : Xfer)
  | sent (t : Xfer)
  | got (t : Xfer)
deriving DecidableEq

abbrev r0 : Rect S2048x1024 := Rect.unit (s := S2048x1024) ![0, 0] S2048x1024.size Gen.inb_S2048x1024_S2048x1024_0_0

/-- Convert a tile: copy it in, cast it, copy the cast tile out to its place in the result. -/
def tileP (d : Dev nD) (t : Fin 4) : Prog (TpuEff nD τ sig (Elt F) Λ₀ .tc) PUnit := do
  Prog.lift (.enqueueDma (xT d t) (.here iM) (.dma localS) (View.wordExact_bits rfl) hi.wordExact ⟨Or.inl rfl, trivial⟩)
  Prog.lift (.waitDma2 localS (xT d t) iM (View.wordExact_bits rfl) hi.wordExact)
  let v : Vec F S2048x1024 .f32 ← Prog.lift (.load iM r0.toLoadRect (View.loadsAt_vmem Gen.h_S2048x1024))
  let _u : Vec F S2048x1024 .bf16 ← Prog.lift (.load cM r0.toLoadRect (View.loadsAt_vmem Gen.h_S2048x1024))
  Prog.lift (.store cM r0 (k0_pay1 v) Finset.univ
    (View.stores_vmem Gen.h_S2048x1024 (hc.storeExact_slice rfl _ Gen.packedbf16_S2048x1024_S2048x1024_0_0) (fun _ => rfl)) (.inl rfl))
  Prog.lift (.enqueueDma cM (.here (oT d t)) (.dma localS) hc.wordExact (oT_words d t) ⟨Or.inl rfl, trivial⟩)
  Prog.lift (.waitDma2 localS cM (oT d t) hc.wordExact (oT_words d t))

/-- Start a remote copy. -/
def startP (d n : Dev nD) : Xfer → Prog (TpuEff nD τ sig (Elt F) Λ₀ .tc) PUnit
  | .up h => Prog.lift (.enqueueDma (uM d h) (.remote (Dev.tc n) (uM d h) (.dma (sendS (.up h)))) (.dma (recvS (.up h)))
      (ho.wordExact_slice rfl _ (Gen.k0_off3_wordsbf16 d h)) (ho.wordExact_slice rfl _ (Gen.k0_off3_wordsbf16 d h)) ⟨⟨rfl, Or.inl rfl⟩, trivial⟩)
  | .cw i k => Prog.lift (.enqueueDma (rM d i k) (.remote (Dev.tc n) (rM d i k) (.dma (sendS (.cw i k)))) (.dma (recvS (.cw i k)))
      (ho.wordExact_slice rfl _ (Gen.k0_off6_wordsbf16 d i k)) (ho.wordExact_slice rfl _ (Gen.k0_off6_wordsbf16 d i k)) ⟨⟨rfl, Or.inl rfl⟩, trivial⟩)
  | .ccw i k => Prog.lift (.enqueueDma (lM d i k) (.remote (Dev.tc n) (lM d i k) (.dma (sendS (.ccw i k)))) (.dma (recvS (.ccw i k)))
      (ho.wordExact_slice rfl _ (Gen.k0_off7_wordsbf16 d i k)) (ho.wordExact_slice rfl _ (Gen.k0_off7_wordsbf16 d i k)) ⟨⟨rfl, Or.inl rfl⟩, trivial⟩)

/-- Wait on a semaphore for the size of a copy. -/
def waitP (d : Dev nD) (s : DmaSem sig) : Xfer → Prog (TpuEff nD τ sig (Elt F) Λ₀ .tc) PUnit
  | .up h => Prog.lift (.waitDma2 s (uM d h) (uM d h)
      (ho.wordExact_slice rfl _ (Gen.k0_off3_wordsbf16 d h)) (ho.wordExact_slice rfl _ (Gen.k0_off3_wordsbf16 d h)))
  | .cw i k => Prog.lift (.waitDma2 s (rM d i k) (rM d i k)
      (ho.wordExact_slice rfl _ (Gen.k0_off6_wordsbf16 d i k)) (ho.wordExact_slice rfl _ (Gen.k0_off6_wordsbf16 d i k)))
  | .ccw i k => Prog.lift (.waitDma2 s (lM d i k) (lM d i k)
      (ho.wordExact_slice rfl _ (Gen.k0_off7_wordsbf16 d i k)) (ho.wordExact_slice rfl _ (Gen.k0_off7_wordsbf16 d i k)))

def actP (d : Dev nD) : Act → Prog (TpuEff nD τ sig (Elt F) Λ₀ .tc) PUnit
  | .tile t => tileP d t
  | .sig j => semSignalWord (sigDev d j) barS 1#32
  | .bar => semWaitWord barS 3#32
  | .start t => startP d (xDev d t) t
  | .sent t => waitP d (sendS t) t
  | .got t => waitP d (recvS t) t

/-- Actions in sequence. -/
def runP (d : Dev nD) : List Act → Prog (TpuEff nD τ sig (Elt F) Λ₀ .tc) PUnit
  | [] => .ret ⟨⟩
  | a :: l => actP d a >>= fun _ => runP d l

/-- The two halves of a ring step: both copies started, then both waited for. -/
abbrev ringActs (i k : Fin 3) : List Act :=
  [.start (.cw i k), .start (.ccw i k), .sent (.cw i k), .got (.cw i k), .sent (.ccw i k), .got (.ccw i k)]

/-- The body's actions. -/
def acts : List Act :=
  [.tile 0, .sig 0, .sig 1, .sig 2, .bar, .start (.up 0), .tile 1, .tile 2, .tile 3, .sent (.up 0), .got (.up 0),
   .start (.up 1)] ++ ringActs 0 0 ++ ringActs 0 1 ++ ringActs 0 2 ++ [.sent (.up 1), .got (.up 1),
   .start (.up 2)] ++ ringActs 1 0 ++ ringActs 1 1 ++ ringActs 1 2 ++ [.sent (.up 2), .got (.up 2)]
  ++ ringActs 2 0 ++ ringActs 2 1 ++ ringActs 2 2

set_option maxRecDepth 65536 in
/-- The printed body is the run of its actions. -/
theorem body_flow : cc0_body (F := F) xM hx oM ho iM hi cM hc cc0_scratch2 cc0_scratch3 cc0_scratch4 cc0_scratch5 cc0_scratch6 cc0_scratch7 cc0_scratch8
    = (.op .deviceId fun d => runP d acts) := rfl

end Cert.KernelIdeal.Gather

end
-- ==== Proof.Ideal.Places.lean ====
/-
  Where things are: the devices' places in the mesh, the blocks of a device's result in that device's own coordinates,
  the tiles and half tiles of the body as sets of blocks, and what each block holds at the end.

  A device has a place z on a ring of four and a place p on another ring of four. Its result is 32 blocks of 1024 rows.
  Block (i, k, b) of device c is half b of tile (p + k) mod 4 of the slab of z place (z - 1 - i) mod 4; i = 3 is the
  device's own slab. In these coordinates every copy of the body reads and writes the same blocks on every device.
-/
module

public import proofs.«01_k».proof.Proof.Ideal.Flow
public import Idealize.ShloMosaic.Lib.Pipeline.Launch

@[expose] public section

noncomputable section

namespace Cert.KernelIdeal.Gather

open Cert.KernelIdeal.Gen
open Idealize.ShloMosaic Idealize.ShloMosaic.TcCoe Idealize.SL.Sem

variable {F : FTy → Type} [FloatOps F]

/-! ## The mesh -/

/-- A device's place on its z ring. -/
abbrev zOf (c : Dev nD) : ℕ := c.val % 4
/-- A device's place on its ring in the x-y plane. -/
abbrev pOf (c : Dev nD) : ℕ := 2 * (c.val / 8) + (c.val / 8 + c.val / 4 % 2) % 2
/-- The device at two places. -/
def devAt (z p : ℕ) : Dev nD := ⟨(p / 2 % 2 * 8 + (p % 2 + p / 2) % 2 * 4 + z % 4) % 16, Nat.mod_lt _ (by decide)⟩

/-- The three directions of travel: 0 up the z ring, 1 clockwise, 2 counterclockwise. -/
def toward (j : Fin 3) (c : Dev nD) : Dev nD :=
  match j with
  | 0 => devAt (zOf c + 1) (pOf c)
  | 1 => devAt (zOf c) (pOf c + 1)
  | 2 => devAt (zOf c) (pOf c + 3)
/-- Against a direction. -/
def against (j : Fin 3) (c : Dev nD) : Dev nD :=
  match j with
  | 0 => devAt (zOf c + 3) (pOf c)
  | 1 => devAt (zOf c) (pOf c + 3)
  | 2 => devAt (zOf c) (pOf c + 1)

theorem against_toward (j : Fin 3) (c : Dev nD) : against j (toward j c) = c := by revert j c; decide +kernel
theorem toward_against (j : Fin 3) (c : Dev nD) : toward j (against j c) = c := by revert j c; decide +kernel

/-- A direction as a rearrangement of the devices. -/
def turn (j : Fin 3) : Dev nD ≃ Dev nD := ⟨toward j, against j, against_toward j, toward_against j⟩

/-- The direction a copy travels in. -/
def dir : Xfer → Fin 3
  | .up _ => 0
  | .cw _ _ => 1
  | .ccw _ _ => 2

theorem mem_allX (t : Xfer) : t ∈ allX := by
  rcases t with h | ⟨i, k⟩ | ⟨i, k⟩
  · revert h; decide
  · revert i k; decide
  · revert i k; decide

theorem forall_xfer {P : Xfer → Prop} (h : ∀ t ∈ allX, P t) (t : Xfer) : P t := h t (mem_allX t)

set_option maxRecDepth 4000 in
/-- The body's device arithmetic names the neighbour in the copy's direction, -/
theorem xDev_eq (c : Dev nD) (t : Xfer) : xDev c t = toward (dir t) c := by
  have h : ∀ t ∈ allX, ∀ c : Dev nD, (xDev c t).val = (toward (dir t) c).val := by decide +kernel
  exact Fin.ext (h t (mem_allX t) c)
/-- and, for the signals, the neighbour whose copies the signal is to allow. -/
theorem sigDev_eq (c : Dev nD) (j : Fin 3) : sigDev c j = against j c := by
  have h : ∀ (j : Fin 3) (c : Dev nD), (sigDev c j).val = (against j c).val := by decide +kernel
  exact Fin.ext (h j c)

/-! ## The blocks -/

/-- A block of a device's result, in the device's own coordinates. -/
abbrev Blk : Type := Fin 4 × Fin 4 × Fin 2

/-- All blocks, listed. -/
def allB : List Blk := (List.finRange 4).flatMap fun i => (List.finRange 4).flatMap fun k => [(i, k, 0), (i, k, 1)]

/-- A block's place in the device's result, counted in blocks. -/
def row (c : Dev nD) (b : Blk) : ℕ := (zOf c + 3 - b.1.val) % 4 * 8 + (pOf c + b.2.1.val) % 4 * 2 + b.2.2.val

theorem row_lt (c : Dev nD) (b : Blk) : row c b < 32 := by revert c b; decide +kernel
theorem row_inj (c : Dev nD) : Function.Injective (row c) := by
  have h : ∀ (c : Dev nD) (b b' : Blk), row c b = row c b' → b = b' := by decide +kernel
  exact fun b b' => h c b b'
theorem row_surj (c : Dev nD) (n : ℕ) (hn : n < 32) : ∃ b, row c b = n := by
  have h : ∀ (c : Dev nD) (n : Fin 32), ∃ b, row c b = n.val := by decide +kernel
  exact h c ⟨n, hn⟩

/-- The blocks a copy reads, on the device that starts it. -/
def srcB : Xfer → List Blk
  | .up 0 => [(3, 0, 0), (3, 0, 1)]
  | .up 1 => [(0, 0, 0), (0, 0, 1)]
  | .up 2 => [(1, 0, 0), (1, 0, 1)]
  | .cw i k => [(i.castSucc, ⟨(4 - k.val) % 4, Nat.mod_lt _ (by decide)⟩, 0)]
  | .ccw i k => [(i.castSucc, k.castSucc, 1)]

/-- The blocks a copy writes, on the device it arrives at. -/
def dstB : Xfer → List Blk
  | .up h => [(h.castSucc, 0, 0), (h.castSucc, 0, 1)]
  | .cw i k => [(i.castSucc, ⟨3 - k.val, by omega⟩, 0)]
  | .ccw i k => [(i.castSucc, k.succ, 1)]

/-- The two sides of a copy are the same rows. -/
theorem rows_match (c : Dev nD) (t : Xfer) : (dstB t).map (row (toward (dir t) c)) = (srcB t).map (row c) := by
  have h : ∀ t ∈ allX, ∀ c : Dev nD, (dstB t).map (row (toward (dir t) c)) = (srcB t).map (row c) := by decide +kernel
  exact h t (mem_allX t) c

/-- The blocks a device hands to the neighbour that its j-th signal goes to. -/
def handB : Fin 3 → List Blk
  | 0 => (List.finRange 3).flatMap fun i => [(i.castSucc, 0, 0), (i.castSucc, 0, 1)]
  | 1 => (List.finRange 3).flatMap fun i => (List.finRange 3).map fun k => (i.castSucc, k.succ, 0)
  | 2 => (List.finRange 3).flatMap fun i => (List.finRange 3).map fun k => (i.castSucc, k.succ, 1)

/-! ## The body's offsets -/

/-- The place of a copy's first row, counted in blocks. -/
def xRow (c : Dev nD) : Xfer → ℕ
  | .up h => row c ((if h = 0 then 3 else ⟨h.val - 1, by omega⟩), 0, 0)
  | .cw i k => row c (i.castSucc, ⟨(4 - k.val) % 4, Nat.mod_lt _ (by decide)⟩, 0)
  | .ccw i k => row c (i.castSucc, k.castSucc, 1)

theorem off3_eq (c : Dev nD) (h : Fin 3) : k0_off3 c (BitVec.ofNat 32 h.val) = ![1024 * xRow c (.up h), 0] := by
  have e : ∀ (c : Dev nD) (h : Fin 3) (a : Fin 2), k0_off3 c (BitVec.ofNat 32 h.val) a = (![1024 * xRow c (.up h), 0] : Fin 2 → ℕ) a := by decide +kernel
  exact funext (e c h)
theorem off6_eq (c : Dev nD) (i k : Fin 3) : k0_off6 c (BitVec.ofNat 32 i.val) (BitVec.ofNat 32 k.val) = ![1024 * xRow c (.cw i k), 0] := by
  have e : ∀ (c : Dev nD) (i k : Fin 3) (a : Fin 2), k0_off6 c (BitVec.ofNat 32 i.val) (BitVec.ofNat 32 k.val) a
    = (![1024 * xRow c (.cw i k), 0] : Fin 2 → ℕ) a := by decide +kernel
  exact funext (e c i k)
theorem off7_eq (c : Dev nD) (i k : Fin 3) : k0_off7 c (BitVec.ofNat 32 i.val) (BitVec.ofNat 32 k.val) = ![1024 * xRow c (.ccw i k), 0] := by
  have e : ∀ (c : Dev nD) (i k : Fin 3) (a : Fin 2), k0_off7 c (BitVec.ofNat 32 i.val) (BitVec.ofNat 32 k.val) a
    = (![1024 * xRow c (.ccw i k), 0] : Fin 2 → ℕ) a := by decide +kernel
  exact funext (e c i k)

/-- The tile of its input that a device's t-th conversion reads, counted in tiles. -/
def tq (c : Dev nD) (t : Fin 4) : ℕ := (pOf c + t.val) % 4

theorem off1_eq (c : Dev nD) : k0_off1 c = ![2048 * tq c 0, 0] := by
  have e : ∀ (c : Dev nD) (a : Fin 2), k0_off1 c a = (![2048 * tq c 0, 0] : Fin 2 → ℕ) a := by decide +kernel
  exact funext (e c)
theorem off2_eq (c : Dev nD) : k0_off2 c = ![8192 * zOf c + 2048 * tq c 0, 0] := by
  have e : ∀ (c : Dev nD) (a : Fin 2), k0_off2 c a = (![8192 * zOf c + 2048 * tq c 0, 0] : Fin 2 → ℕ) a := by decide +kernel
  exact funext (e c)
theorem off4_eq (c : Dev nD) (r : Fin 3) : k0_off4 c (BitVec.ofNat 32 (1 + r.val)) = ![2048 * tq c r.succ, 0] := by
  have e : ∀ (c : Dev nD) (r : Fin 3) (a : Fin 2), k0_off4 c (BitVec.ofNat 32 (1 + r.val)) a = (![2048 * tq c r.succ, 0] : Fin 2 → ℕ) a := by decide +kernel
  exact funext (e c r)
theorem off5_eq (c : Dev nD) (r : Fin 3) : k0_off5 c (BitVec.ofNat 32 (1 + r.val)) = ![8192 * zOf c + 2048 * tq c r.succ, 0] := by
  have e : ∀ (c : Dev nD) (r : Fin 3) (a : Fin 2), k0_off5 c (BitVec.ofNat 32 (1 + r.val)) a
    = (![8192 * zOf c + 2048 * tq c r.succ, 0] : Fin 2 → ℕ) a := by decide +kernel
  exact funext (e c r)

theorem xOff_eq (c : Dev nD) : ∀ t : Fin 4, xOff c t = ![2048 * tq c t, 0]
  | 0 => off1_eq c
  | ⟨r + 1, hr⟩ => off4_eq c ⟨r, by omega⟩
theorem oOff_eq (c : Dev nD) : ∀ t : Fin 4, oOff c t = ![8192 * zOf c + 2048 * tq c t, 0]
  | 0 => off2_eq c
  | ⟨r + 1, hr⟩ => off5_eq c ⟨r, by omega⟩

theorem tile_row (c : Dev nD) (t : Fin 4) (b : Fin 2) : row c (3, t, b) = 8 * zOf c + 2 * tq c t + b.val := by revert c t b; decide +kernel

end Cert.KernelIdeal.Gather

end
-- ==== Proof.Ideal.Contents.lean ====
/-
  What the blocks hold: the memrefs of the body as sets of blocks, the contents every block ends with, that a copy
  carries those contents over, and that a conversion produces them.
-/
module

public import proofs.«01_k».proof.Proof.Ideal.Places
public import Idealize.ShloMosaic.Lib.Pipeline.Value

@[expose] public section

noncomputable section

namespace Cert.KernelIdeal.Gather

open Cert.KernelIdeal.Gen
open Idealize.ShloMosaic Idealize.ShloMosaic.TcCoe Idealize.SL.Sem

variable {F : FTy → Type} [FloatOps F]

/-- An element's place in a result, and in an input. -/
abbrev OIdx : Type := (main_v1 : Ref sig .tc).ty.Idx
abbrev XIdx : Type := (main_arg0 : Ref sig .tc).ty.Idx
/-- Whole contents of a result, and of an input. -/
abbrev OBuf (F : FTy → Type) : Type := (main_v1 : Ref sig .tc).ty.Contents (Elt F)
abbrev XBuf (F : FTy → Type) : Type := (main_arg0 : Ref sig .tc).ty.Contents (Elt F)

/-- The row and the column of an element of a result, as numbers. -/
abbrev rowN (i : OIdx) : ℕ := (i (0 : Fin 2) : Fin 32768).val
abbrev colN (i : OIdx) : ℕ := (i (1 : Fin 2) : Fin 1024).val

theorem rowN_lt (i : OIdx) : rowN i < 32768 := (i (0 : Fin 2) : Fin 32768).isLt
theorem colN_lt (i : OIdx) : colN i < 1024 := (i (1 : Fin 2) : Fin 1024).isLt

/-- The n-th block of 1024 rows. -/
def blk (n : ℕ) : Finset OIdx := Finset.univ.filter fun i => rowN i / 1024 = n

theorem mem_blk {n : ℕ} {i : OIdx} : i ∈ blk n ↔ rowN i / 1024 = n := by
  unfold blk; rw [Finset.mem_filter]; exact ⟨fun h => h.2, fun h => ⟨Finset.mem_univ _, h⟩⟩

theorem blk_disjoint {n n' : ℕ} (h : n ≠ n') : Disjoint (blk n) (blk n') :=
  Finset.disjoint_left.mpr fun i hi hi' => h ((mem_blk.mp hi).symm.trans (mem_blk.mp hi'))

/-- The rows of a rectangle that spans the columns. -/
theorem mem_rows {off : Fin 2 → ℕ} {a w : ℕ} (inb : ∀ d, off d + (![w, 1024] : Fin 2 → ℕ) d ≤ S32768x1024.size d) (ho : off = ![a, 0]) (i : OIdx) :
    i ∈ ((View.whole main_v1).slice (Rect.unit (s := S32768x1024) off ![w, 1024] inb)).set ↔ a ≤ rowN i ∧ rowN i < a + w := by
  subst ho
  rw [View.set_slice_whole]
  refine Rect.mem_set_unit.trans ⟨fun h => h (0 : Fin 2), fun h d => ?_⟩
  match d with
  | 0 => exact h
  | 1 => exact ⟨Nat.zero_le _, (colN_lt i).trans_eq (Nat.zero_add _).symm⟩

/-- A hop up the z ring moves two blocks, -/
theorem up_set (c : Dev nD) (h : Fin 3) : (uM c h).view.set = blk (xRow c (.up h)) ∪ blk (xRow c (.up h) + 1) := by
  ext i
  rw [Finset.mem_union, mem_blk, mem_blk]
  refine (mem_rows _ (off3_eq c h) i).trans ?_
  omega
/-- a hop around the other ring one. -/
theorem cw_set (c : Dev nD) (i k : Fin 3) : (rM c i k).view.set = blk (xRow c (.cw i k)) := by
  ext j
  rw [mem_blk]
  refine (mem_rows _ (off6_eq c i k) j).trans ?_
  omega
theorem ccw_set (c : Dev nD) (i k : Fin 3) : (lM c i k).view.set = blk (xRow c (.ccw i k)) := by
  ext j
  rw [mem_blk]
  refine (mem_rows _ (off7_eq c i k) j).trans ?_
  omega

/-- A conversion writes two blocks of the device's own slab. -/
theorem oT_set (c : Dev nD) (t : Fin 4) : (oT c t).view.set = blk (row c (3, t, 0)) ∪ blk (row c (3, t, 1)) := by
  ext i
  rw [Finset.mem_union, mem_blk, mem_blk, tile_row, tile_row]
  refine (mem_rows _ (oOff_eq c t) i).trans ?_
  simp only [Fin.val_zero, Fin.val_one]
  omega

/-! ## The contents at the end -/

variable (x : Dev nD → XBuf F)

/-- The cast of one element. -/
abbrev cv (v : Elt F .f32) : Elt F .bf16 := FloatOps.truncf (F := F) .bf16 bitsLt_bf16_f32 v

/-- An element's place in its slab. -/
def inSlab (i : OIdx) : XIdx :=
  fun (a : Fin 2) => match a with
    | 0 => (⟨rowN i % 8192, Nat.mod_lt _ (by decide)⟩ : Fin 8192)
    | 1 => (⟨colN i, colN_lt i⟩ : Fin 1024)

/-- The gathered array: each element is cast on the one device whose places are its slab and its tile. -/
def gathered : OBuf F := fun i => cv (x (devAt (rowN i / 8192) (rowN i % 8192 / 2048)) (inSlab i))

/-- What device c's result holds at the end: its own slab as cast by itself, the rest as gathered. -/
def fin (c : Dev nD) : OBuf F := fun i => if rowN i / 8192 = zOf c then cv (x c (inSlab i)) else gathered x i

/-- Blocks outside the own slab, and the device's own tile in it, hold the gathered array. -/
def Shared (b : Blk) : Prop := b.1 ≠ 3 ∨ b.2.1 = 0
instance (b : Blk) : Decidable (Shared b) := inferInstanceAs (Decidable (_ ∨ _))

theorem shared_src (t : Xfer) : ∀ b ∈ srcB t, Shared b := by
  have h : ∀ t ∈ allX, ∀ b ∈ srcB t, Shared b := by decide
  exact h t (mem_allX t)
theorem shared_dst (t : Xfer) : ∀ b ∈ dstB t, Shared b := by
  have h : ∀ t ∈ allX, ∀ b ∈ dstB t, Shared b := by decide
  exact h t (mem_allX t)

theorem fin_shared (c : Dev nD) (b : Blk) (hb : Shared b) (i : OIdx) (hi : i ∈ blk (row c b)) : fin x c i = gathered x i := by
  have h1 : ∀ (c : Dev nD) (b : Blk), Shared b → row c b / 8 = zOf c → devAt (row c b / 8) (row c b % 8 / 2) = c := by decide +kernel
  have hr := mem_blk.mp hi
  have e1 : rowN i / 8192 = row c b / 8 := by rw [← hr]; omega
  have e2 : rowN i % 8192 / 2048 = row c b % 8 / 2 := by rw [← hr]; omega
  unfold fin
  split
  · next h => unfold gathered; rw [e1, e2, h1 c b hb (e1.symm.trans h)]
  · rfl

/-- The two devices of a copy agree on what its blocks hold at the end. -/
theorem fin_agree (c : Dev nD) (t : Xfer) (b b' : Blk) (hb : b ∈ srcB t) (hb' : b' ∈ dstB t) (hr : row (toward (dir t) c) b' = row c b)
    (i : OIdx) (hi : i ∈ blk (row c b)) : fin x c i = fin x (toward (dir t) c) i := by
  rw [fin_shared x c b (shared_src t b hb) i hi, fin_shared x _ b' (shared_dst t b' hb') i (hr ▸ hi)]

/-! ## A conversion's value -/

/-- An element of the t-th tile of a result, and the element of the input it is cast from. -/
theorem inSlab_tile (c : Dev nD) (t : Fin 4) (j : S2048x1024.Idx) : inSlab ((oT c t).view.emb j) = (xT c t).view.emb j := by
  have hq : tq c t < 4 := Nat.mod_lt _ (by decide)
  have hz : zOf c < 4 := Nat.mod_lt _ (by decide)
  have hj : (j (0 : Fin 2)).val < 2048 := (j (0 : Fin 2)).isLt
  have e0 : rowN ((oT c t).view.emb j) = oOff c t 0 + 1 * (j (0 : Fin 2)).val := rfl
  have e1 : colN ((oT c t).view.emb j) = oOff c t 1 + 1 * (j (1 : Fin 2)).val := rfl
  rw [oOff_eq] at e0 e1
  funext a
  match a with
  | 0 =>
    refine Fin.ext ?_
    show rowN ((oT c t).view.emb j) % 8192 = xOff c t 0 + 1 * (j (0 : Fin 2)).val
    rw [xOff_eq, e0]
    show (8192 * zOf c + 2048 * tq c t + 1 * _) % 8192 = 2048 * tq c t + 1 * _
    omega
  | 1 =>
    refine Fin.ext ?_
    show colN ((oT c t).view.emb j) = xOff c t 1 + 1 * (j (1 : Fin 2)).val
    rw [xOff_eq, e1]; rfl

theorem own_row (c : Dev nD) (t : Fin 4) (j : S2048x1024.Idx) : rowN ((oT c t).view.emb j) / 8192 = zOf c := by
  have hq : tq c t < 4 := Nat.mod_lt _ (by decide)
  have hj : (j (0 : Fin 2)).val < 2048 := (j (0 : Fin 2)).isLt
  have e0 : rowN ((oT c t).view.emb j) = oOff c t 0 + 1 * (j (0 : Fin 2)).val := rfl
  rw [oOff_eq] at e0
  rw [e0]
  show (8192 * zOf c + 2048 * tq c t + 1 * _) / 8192 = zOf c
  omega

/-- The cast of a tile, element by element. -/
theorem pay_apply (v : Vec F S2048x1024 .f32) (j : S2048x1024.Idx) : k0_pay1 v j = cv (v j) := by
  unfold k0_pay1
  show FloatOps.truncf (F := F) .bf16 bitsLt_bf16_f32 (v (Shape.reshapeEquiv _ j)) = _
  rw [Shape.reshapeEquiv_self]

/-- Writing the cast of the t-th tile of the input over the t-th tile of the result makes it what it holds at the end. -/
theorem tile_value (c : Dev nD) (t : Fin 4) (f : OBuf F) (i : OIdx) (hi : i ∈ (oT c t).view.set) :
    (oT c t).view.write (Elt F) f (k0_pay1 ((xT c t).view.read (Elt F) (x c))) Finset.univ i = fin x c i := by
  obtain ⟨j, -, rfl⟩ := Finset.mem_map.mp hi
  unfold fin
  rw [if_pos (own_row c t j), inSlab_tile, View.write_emb_of_mem _ _ (Finset.mem_univ j), pay_apply, View.read_apply]
  rfl

end Cert.KernelIdeal.Gather

end
-- ==== Proof.Ideal.Protocol.lean ====
/-
  The protocol between the devices, under the rounds library: a round of each semaphore, who pays it and what comes with
  the payment; what each device owes and in which order; and a device's resources as a list of items, so that an action
  of the body is a rule that takes some items away and puts others in their place.
-/
module

public import proofs.«01_k».proof.Proof.Ideal.Contents
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Tactic

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's rounds, the protocol's rounds, the counters of the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (x : Dev nD → XBuf F)

/-! ## The semaphores by role -/

/-- A semaphore's role: the barrier, a copy's departure, a copy's arrival. -/
inductive Role where
  | bar
  | snd (t : Xfer)
  | rcv (t : Xfer)
deriving DecidableEq

def allR : List Role := .bar :: (allX.map .snd ++ allX.map .rcv)

theorem mem_allR (r : Role) : r ∈ allR := by
  rcases r with _ | t | t
  · exact List.mem_cons_self
  · exact List.mem_cons_of_mem _ (List.mem_append_left _ (List.mem_map_of_mem (mem_allX t)))
  · exact List.mem_cons_of_mem _ (List.mem_append_right _ (List.mem_map_of_mem (mem_allX t)))

instance : Fintype Role := ⟨allR.toFinset, fun r => List.mem_toFinset.mpr (mem_allR r)⟩

theorem allR_nodup : allR.Nodup := by decide
theorem univ_role : (Finset.univ : Finset Role) = allR.toFinset := rfl

def semOf : Role → SemLoc sig
  | .bar => .reg barS
  | .snd t => .dma (sendS t)
  | .rcv t => .dma (recvS t)

/-- The role of a semaphore, if it has one. -/
def roleOf (sm : SemLoc sig) : Option Role := allR.find? fun r => semOf r = sm

set_option maxRecDepth 8000 in
theorem roleOf_semOf (r : Role) : roleOf (semOf r) = some r := by
  have h : ∀ r ∈ allR, roleOf (semOf r) = some r := by decide +kernel
  exact h r (mem_allR r)

theorem semOf_inj : Function.Injective semOf := fun r r' h => Option.some.inj ((roleOf_semOf r).symm.trans ((congrArg roleOf h).trans (roleOf_semOf r')))

/-- A device's semaphore of a role. -/
abbrev cell (c : Dev nD) (r : Role) : GSem nD τ sig := ((c : Thread nD τ), semOf r)

/-- The size of a copy, as the semaphores count it. -/
def amt : Xfer → ℕ
  | .up _ => (uM 0 0).view.dmaCredit
  | .cw _ _ => (rM 0 0 0).view.dmaCredit
  | .ccw _ _ => (lM 0 0 0).view.dmaCredit

theorem amt_pos : ∀ t : Xfer, 0 < amt t
  | .up _ => View.dmaCredit_pos _ (by decide)
  | .cw _ _ => View.dmaCredit_pos _ (by decide)
  | .ccw _ _ => View.dmaCredit_pos _ (by decide)

/-! ## Blocks as resources -/

/-- Block n of a result, at a share, with given contents. -/
def pt (c : Dev nD) (n : ℕ) (q : PosShare TreeShare) (f : OBuf F) : sProp 𝕄 := ((c : Thread nD τ).loc main_v1) ↦[blk n]{q} f

/-- A block to be written, and one of the two half shares of a finished block. -/
def anyB (c : Dev nD) (b : Blk) : sProp 𝕄 := iprop(∃ f : OBuf F, pt c (row c b) fullShare f)
def sh : Bool → PosShare TreeShare
  | true => fullShare.left
  | false => fullShare.right
def halfB (c : Dev nD) (s : Bool) (b : Blk) : sProp 𝕄 := pt c (row c b) (sh s) (fin x c)

/-- The half share a copy reads with: the copies up the z ring one, the other copies the other. -/
def side : Xfer → Bool
  | .up _ => true
  | _ => false

omit [FloatOps F] in
instance pt_storable (c : Dev nD) (n : ℕ) (q : PosShare TreeShare) (f : OBuf F) : BI.Storable (upEmb : UEmb _ 𝕄) (pt c n q f) := by unfold pt; infer_instance
omit [FloatOps F] in
instance anyB_storable (c : Dev nD) (b : Blk) : BI.Storable (upEmb : UEmb _ 𝕄) (anyB (F := F) c b) := by unfold anyB; infer_instance
instance halfB_storable (c : Dev nD) (s : Bool) (b : Blk) : BI.Storable (upEmb : UEmb _ 𝕄) (halfB x c s b) := by unfold halfB; infer_instance

omit [FloatOps F] in
instance bigSepL_storable {I : Type} (l : List I) (Φ : I → sProp 𝕄) [h : ∀ i, BI.Storable (upEmb : UEmb _ 𝕄) (Φ i)] : BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

/-! ## The schedule -/

/-- What the j-th signal hands over: the blocks of the neighbour that are this device's to write. -/
def barPay (c : Dev nD) (j : Fin 3) : sProp 𝕄 := bigSepL (handB j) fun b => anyB (toward j c) b
/-- What a copy's departure gives back, and what its arrival gives. -/
def sndPay (c : Dev nD) (t : Xfer) : sProp 𝕄 := bigSepL (srcB t) fun b => halfB x c (side t) b
def rcvPay (c : Dev nD) (t : Xfer) : sProp 𝕄 := bigSepL (dstB t) fun b => iprop(halfB x c true b ∗ halfB x c false b)

def payOf (c : Dev nD) (d : Fin 3) : Option Role → sProp 𝕄
  | some .bar => barPay c d
  | some (.snd t) => sndPay x c t
  | some (.rcv t) => rcvPay x c t
  | none => iprop(emp)

def dutiesOf : Option Role → Finset (Fin 3)
  | some .bar => Finset.univ
  | some _ => {0}
  | none => ∅

def unitOf : Option Role → ℕ
  | some (.snd t) => amt t
  | some (.rcv t) => amt t
  | _ => 1

/-- One round for each semaphore: the barrier is paid by three neighbours, a unit each; a departure and an arrival are
    paid by the copy. -/
def rd : Rounds.Schedule (GSem nD τ sig) (Fin 3) 𝕄 where
  duties g r := if r = 0 ∧ g.1.2 = .tc then dutiesOf (roleOf g.2) else ∅
  unitless _ := False
  amount g _ _ := unitOf (roleOf g.2)
  payload g _ d := payOf x g.1.1 d (roleOf g.2)
  amount_pos g _ _ _ := by
    rcases roleOf g.2 with _ | ⟨_ | t | t⟩
    · exact Nat.one_pos
    · exact Nat.one_pos
    · exact amt_pos t
    · exact amt_pos t

instance rd_storable (g : GSem nD τ sig) (r : ℕ) (d : Fin 3) : BI.Storable (upEmb : UEmb _ 𝕄) ((rd x).payload g r d) := by
  show BI.Storable upEmb (payOf x g.1.1 d (roleOf g.2))
  rcases roleOf g.2 with _ | ⟨_ | t | t⟩ <;> dsimp only [payOf, barPay, sndPay, rcvPay] <;> infer_instance

theorem duties_cell (c : Dev nD) (r : Role) : (rd x).duties (cell c r) 0 = dutiesOf (some r) := by
  dsimp only [rd]
  rw [if_pos ⟨rfl, rfl⟩, roleOf_semOf]
theorem duties_later (g : GSem nD τ sig) : ∀ r, 1 ≤ r → (rd x).duties g r = ∅ := fun r hr => if_neg fun h => by omega
theorem amount_cell (c : Dev nD) (r : Role) (d : Fin 3) : (rd x).amount (cell c r) 0 d = unitOf (some r) := congrArg unitOf (roleOf_semOf r)
theorem payload_cell (c : Dev nD) (r : Role) (d : Fin 3) : (rd x).payload (cell c r) 0 d = payOf x c d (some r) := congrArg (payOf x c d) (roleOf_semOf r)

theorem expect_cell (c : Dev nD) (r : Role) : (rd x).expect (cell c r) 0 = (dutiesOf (some r)).card * unitOf (some r) := by
  unfold Schedule.expect Schedule.amountOf
  rw [duties_cell, Finset.sum_congr rfl fun d _ => amount_cell x c r d, Finset.sum_const, smul_eq_mul]

theorem rest_cell (c : Dev nD) (r : Role) : bigSep ((rd x).duties (cell c r) 0 \ ∅) (fun d => (rd x).payload (cell c r) 0 d)
    = bigSep (dutiesOf (some r)) fun d => payOf x c d (some r) := by
  rw [Finset.sdiff_empty, duties_cell]; exact bigSep_congr fun d _ => payload_cell x c r d

/-! ## Dues and levels -/

/-- A payment a device owes another: a unit on a barrier, a copy's arrival. -/
inductive Due where
  | sig (j : Fin 3)
  | copy (t : Xfer)
deriving DecidableEq

/-- All of a device's dues, in the order it pays them. -/
def allD : List Due := [.sig 0, .sig 1, .sig 2] ++ allX.map .copy

/-- The device a payment goes to; its semaphore's role; its units. -/
def dueTo : Due → Dev nD ≃ Dev nD
  | .sig j => (turn j).symm
  | .copy t => turn (dir t)
def dueRole : Due → Role
  | .sig _ => .bar
  | .copy t => .rcv t
def dueAmt : Due → ℕ
  | .sig _ => 1
  | .copy t => amt t

def due (c : Dev nD) (d : Due) : CellTallies nD τ sig Unit := tallyAt (cell (dueTo d c) (dueRole d)) () (dueAmt d)

/-- What a device owes with the payments of a list still to make. -/
def dues (c : Dev nD) : List Due → CellTallies nD τ sig Unit
  | [] => 0
  | d :: l => dues c l + due c d

/-- A copy's number in program order. -/
def ord (t : Xfer) : ℕ := allX.idxOf t

/-- Levels: the barrier below every arrival, arrivals in program order, departures and local copies at the bottom. -/
def roleLv : Option Role → ℕ
  | some .bar => 1
  | some (.rcv t) => ord t + 2
  | _ => 0

def L (g : GSem nD τ sig) : Finset Unit := if g.1.2 = .tc then {()} else ∅
def lv (g : GSem nD τ sig) (_ : Unit) : ℕ := roleLv (roleOf g.2)

theorem L_of_ne (g : GSem nD τ sig) (h : g.1.2 ≠ .tc) : L g = ∅ := if_neg h

def dueLv (d : Due) : ℕ := roleLv (some (dueRole d))

theorem dues_pos {c : Dev nD} {l : List Due} {g : GSem nD τ sig} {u : Unit} (h : 0 < dues c l g u) : ∃ d ∈ l, g = cell (dueTo d c) (dueRole d) := by
  induction l with
  | nil => exact absurd h (Nat.lt_irrefl 0)
  | cons d l ih =>
    unfold dues at h
    rw [Pi.add_apply, Finsupp.add_apply] at h
    rcases Nat.add_pos_iff_pos_or_pos.mp h with h | h
    · obtain ⟨d', hd', e⟩ := ih h
      exact ⟨d', List.mem_cons_of_mem _ hd', e⟩
    · unfold due at h
      rw [tallyAt_apply] at h
      by_cases hg : g = cell (dueTo d c) (dueRole d) ∧ u = ()
      · exact ⟨d, List.mem_cons_self, hg.1⟩
      · rw [if_neg hg] at h; exact absurd h (Nat.lt_irrefl 0)

omit [FloatOps F] in
/-- A device may wait at a semaphore below everything it still owes. -/
theorem may_wait (c : Dev nD) (sm : SemLoc sig) (l : List Due) (h : ∀ d ∈ l, roleLv (roleOf sm) < dueLv d) :
    (levAts L lv : sProp 𝕄) ⊢ MayWait (c : Thread nD τ) sm () (dues c l) :=
  MayOwe.of_cut (L := L) (lev := lv) (roleLv (roleOf sm))
    (fun p hp => by rw [Finset.mem_singleton.mp hp]; exact Finset.mem_singleton_self _)
    (fun g u hg => by obtain ⟨d, -, rfl⟩ := dues_pos hg; exact Finset.mem_singleton_self _)
    (fun p hp => by rw [Finset.mem_singleton.mp hp]; exact le_rfl)
    (fun g u hg => by
      obtain ⟨d, hd, rfl⟩ := dues_pos hg
      have := h d hd
      unfold dueLv at this
      show _ < roleLv (roleOf (semOf (dueRole d)))
      rwa [roleOf_semOf])

/-! ## A device's resources as items -/

inductive Item where
  /-- a block of the own result, to be written -/
  | any (b : Blk)
  /-- a half share of a finished block -/
  | half (s : Bool) (b : Blk)
  /-- a block of the neighbour in a direction, to be written -/
  | far (j : Fin 3) (b : Blk)
  /-- the input, the two staging buffers and the local semaphore -/
  | own
  /-- the right to pay a signal -/
  | sigTok (j : Fin 3)
  /-- the barrier, not yet waited for, and done with -/
  | barIn
  | barOut
  /-- the right to start a copy -/
  | copyTok (t : Xfer)
  /-- the departure semaphore's position, the claim to its units, the semaphore done with -/
  | sndIn (t : Xfer)
  | flying (t : Xfer)
  | sndOut (t : Xfer)
  /-- the arrival semaphore, not yet waited for, and done with -/
  | rcvIn (t : Xfer)
  | rcvOut (t : Xfer)
deriving DecidableEq

/-- The input, the two staging buffers at any contents, and the local semaphore at zero. -/
def ownR (c : Dev nD) : sProp 𝕄 :=
  iprop((((c : Thread nD τ).loc main_arg0) ↦{fullShare} x c)
    ∗ (∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f)
    ∗ semVal ((c : Thread nD τ), SemLoc.dma localS) 0)

def itemR (c : Dev nD) : Item → sProp 𝕄
  | .any b => anyB c b
  | .half s b => halfB x c s b
  | .far j b => anyB (toward j c) b
  | .own => ownR x c
  | .sigTok j => dutyTok ER (cell (against j c) .bar) 0 j
  | .barIn => iprop(atPos ER (cell c .bar) 0 ∅ 0 ∗ cred (tallyAt (cell c .bar) () 3))
  | .barOut => semVal (cell c .bar) 0
  | .copyTok t => iprop(dutyTok ER (cell c (.snd t)) 0 0 ∗ dutyTok ER (cell (toward (dir t) c) (.rcv t)) 0 0)
  | .sndIn t => atPos ER (cell c (.snd t)) 0 ∅ 0
  | .flying t => cred (tallyAt (cell c (.snd t)) () (amt t))
  | .sndOut t => semVal (cell c (.snd t)) 0
  | .rcvIn t => iprop(atPos ER (cell c (.rcv t)) 0 ∅ 0 ∗ cred (tallyAt (cell c (.rcv t)) () (amt t)))
  | .rcvOut t => semVal (cell c (.rcv t)) 0

def itemsR (c : Dev nD) (l : List Item) : sProp 𝕄 := bigSepL l (itemR x c)

theorem itemsR_nil (c : Dev nD) : itemsR x c [] = iprop(emp) := rfl
theorem itemsR_cons (c : Dev nD) (i : Item) (l : List Item) : itemsR x c (i :: l) = iprop(itemR x c i ∗ itemsR x c l) := bigSepL_cons' _ _ _
theorem itemsR_append (c : Dev nD) (l l' : List Item) : itemsR x c (l ++ l') = iprop(itemsR x c l ∗ itemsR x c l') := bigSepL_append _ _ _
theorem itemsR_map {J : Type} (c : Dev nD) (g : J → Item) (l : List J) : itemsR x c (l.map g) = bigSepL l fun j => itemR x c (g j) := bigSepL_map _ _ _

/-- Both half shares of each block of a list. -/
def doneI (l : List Blk) : List Item := l.map (.half true) ++ l.map (.half false)

/-! ## The actions as rules on items -/

/-- What an action takes, and what it gives. -/
def takes : Act → List Item
  | .tile t => [.own, .any (3, t, 0), .any (3, t, 1)]
  | .sig j => .sigTok j :: (handB j).map .any
  | .bar => [.barIn]
  | .start t => .copyTok t :: ((srcB t).map (.half (side t)) ++ (dstB t).map (.far (dir t)))
  | .sent t => [.sndIn t, .flying t]
  | .got t => [.rcvIn t]
def puts : Act → List Item
  | .tile t => .own :: doneI [(3, t, 0), (3, t, 1)]
  | .sig _ => []
  | .bar => .barOut :: ((handB 0).map (.far 0) ++ ((handB 1).map (.far 1) ++ (handB 2).map (.far 2)))
  | .start t => [.flying t]
  | .sent t => .sndOut t :: (srcB t).map (.half (side t))
  | .got t => .rcvOut t :: doneI (dstB t)

/-- The payment an action makes; the level it waits at. -/
def pays : Act → Option Due
  | .sig j => some (.sig j)
  | .start t => some (.copy t)
  | _ => none
def waitsAt : Act → ℕ
  | .bar => 1
  | .got t => ord t + 2
  | _ => 0

/-- Items taken out of a list, one by one. -/
def takeOut : List Item → List Item → Option (List Item)
  | [], s => some s
  | i :: n, s => if i ∈ s then takeOut n (s.erase i) else none

/-- The payments left after one. -/
def payOff : Option Due → List Due → Option (List Due)
  | none, l => some l
  | some d, d' :: l => if d = d' then some l else none
  | some _, [] => none

/-- A device's state: its items and its dues. -/
abbrev St : Type := List Item × List Due

/-- An action on a state: it succeeds if the items it takes are there, its payment is the next one due, and its wait is
    below all that is left to pay. -/
def act (a : Act) (s : St) : Option St :=
  match takeOut (takes a) s.1, payOff (pays a) s.2 with
  | some r, some l => if ∀ d ∈ l, waitsAt a < dueLv d then some (puts a ++ r, l) else none
  | _, _ => none

def actAll : List Act → St → Option St
  | [], s => some s
  | a :: l, s => match act a s with
    | some s' => actAll l s'
    | none => none

/-- A device's items at launch, and at the end. -/
def initI : List Item :=
  .own :: .barIn :: (([0, 1, 2] : List (Fin 3)).map .sigTok ++ (allB.map .any ++ (allX.map .copyTok ++ (allX.map .sndIn ++ allX.map .rcvIn))))
def doneAll : List Item := .own :: .barOut :: (doneI allB ++ (allX.map .sndOut ++ allX.map .rcvOut))

/-- The end of a run: nothing left to pay, and the items of the end with nothing over. -/
def ends : Option St → Bool
  | some (s, []) => takeOut doneAll s == some []
  | _ => false

set_option maxRecDepth 8000 in
/-- The body's actions, from the items at launch, succeed and end as they should. -/
theorem acts_end : ends (actAll acts (initI, allD)) = true := by decide +kernel

end Cert.KernelIdeal.Gather

end
-- ==== Proof.Ideal.Blocks.lean ====
/-
  Blocks of a result as resources: a list of blocks is one array region; half shares; and the bookkeeping of item lists.
-/
module

public import proofs.«01_k».proof.Proof.Ideal.Protocol

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → XBuf F)

omit [FloatOps F] in
theorem both {P Q : sProp 𝕄} (h : P ⊣⊢ Q) : P = Q := BI.Entails.antisymm h.1 h.2

/-! ## Regions of several blocks -/

/-- The elements of the blocks numbered in a list. -/
def span : List ℕ → Finset OIdx
  | [] => ∅
  | n :: l => blk n ∪ span l

theorem mem_span {l : List ℕ} {i : OIdx} : i ∈ span l ↔ ∃ n ∈ l, i ∈ blk n := by
  induction l with
  | nil => exact ⟨fun h => absurd h (Finset.notMem_empty i), fun ⟨n, h, _⟩ => absurd h List.not_mem_nil⟩
  | cons n l ih =>
    unfold span
    rw [Finset.mem_union, ih, List.exists_mem_cons_iff]

theorem blk_span {n : ℕ} {l : List ℕ} (h : n ∉ l) : Disjoint (blk n) (span l) :=
  Finset.disjoint_left.mpr fun i hi hl => by
    obtain ⟨n', hn', hi'⟩ := mem_span.mp hl
    exact Finset.disjoint_left.mp (blk_disjoint fun (e : n = n') => h (e.symm ▸ hn')) hi hi'

/-- A region of several blocks. -/
def pts (c : Dev nD) (l : List ℕ) (q : PosShare TreeShare) (f : OBuf F) : sProp 𝕄 := ((c : Thread nD τ).loc main_v1) ↦[span l]{q} f

omit [FloatOps F] in
/-- It is its blocks. -/
theorem pts_blocks (c : Dev nD) (q : PosShare TreeShare) (f : OBuf F) : ∀ l : List ℕ, l.Nodup → pts c l q f = bigSepL l fun n => pt c n q f
  | [], _ => pointsTo_empty
  | n :: l, h => by
    rw [bigSepL_cons', ← pts_blocks c q f l (List.nodup_cons.mp h).2]
    exact both (pointsTo_union (blk_span (List.nodup_cons.mp h).1))

omit [FloatOps F] in
/-- Blocks at whatever contents are a region at some contents. -/
theorem blocks_pts (c : Dev nD) (f₀ : OBuf F) : ∀ l : List ℕ, l.Nodup →
    (bigSepL l fun n => iprop(∃ f : OBuf F, pt c n fullShare f)) ⊢ iprop(∃ f : OBuf F, pts c l fullShare f)
  | [], _ => by
    iintro -
    iexists f₀
    iapply (Entails.of_eq (pts_blocks c fullShare f₀ [] List.nodup_nil).symm)
    iempintro
  | n :: l, h => by
    rw [bigSepL_cons']
    iintro ⟨⟨%f, Hn⟩, Hl⟩
    ihave Hl := (blocks_pts c f₀ l (List.nodup_cons.mp h).2) $$ Hl
    icases Hl with ⟨%g, Hl⟩
    iexists ((span l).piecewise g f)
    unfold pts pt
    iapply (pointsTo_join (blk_span (List.nodup_cons.mp h).1))
    isplitl [Hn]; · iexact Hn
    iexact Hl

omit [FloatOps F] in
/-- A block at the full share is its two halves. -/
theorem pt_halves (c : Dev nD) (n : ℕ) (f : OBuf F) : pt c n fullShare f = iprop(pt c n (sh true) f ∗ pt c n (sh false) f) :=
  both (pointsTo_share (PosShare.mem_left_op_right fullShare))

omit [FloatOps F] in
theorem pt_congr (c : Dev nD) (n : ℕ) (q : PosShare TreeShare) {f g : OBuf F} (h : ∀ i ∈ blk n, f i = g i) : pt c n q f = pt c n q g :=
  pointsTo_congr h

theorem nodup_rows (c : Dev nD) {l : List Blk} (h : l.Nodup) : (l.map (row c)).Nodup := h.map (row_inj c)

/-- Half shares of several finished blocks are a region's half share; -/
theorem halves_pts (c : Dev nD) (s : Bool) (l : List Blk) (h : l.Nodup) : bigSepL l (halfB x c s) = pts c (l.map (row c)) (sh s) (fin x c) := by
  rw [pts_blocks c _ _ _ (nodup_rows c h), bigSepL_map]; rfl
/-- several blocks to be written are a region at some contents; -/
theorem anys_pts (c : Dev nD) (f₀ : OBuf F) (l : List Blk) (h : l.Nodup) : bigSepL l (anyB (F := F) c) ⊢ iprop(∃ f : OBuf F, pts c (l.map (row c)) fullShare f) := by
  refine Entails.trans (Entails.of_eq ?_) (blocks_pts c f₀ _ (nodup_rows c h))
  rw [bigSepL_map]; rfl
/-- a finished region is both half shares of its blocks. -/
theorem pts_done (c : Dev nD) (l : List Blk) (h : l.Nodup) (f : OBuf F) (hf : ∀ i ∈ span (l.map (row c)), f i = fin x c i) :
    pts c (l.map (row c)) fullShare f = bigSepL l fun b => iprop(halfB x c true b ∗ halfB x c false b) := by
  have e : pts c (l.map (row c)) fullShare f = pts c (l.map (row c)) fullShare (fin x c) := pointsTo_congr hf
  rw [e, pts_blocks c _ _ _ (nodup_rows c h), bigSepL_map]
  exact congrArg (bigSepL l) (funext fun b => pt_halves c _ _)

/-! ## Item lists -/

/-- Pairs listed are the two lists. -/
theorem bigSepL_pairs {J : Type} (l : List J) (Φ Ψ : J → sProp 𝕄) : (bigSepL l fun j => iprop(Φ j ∗ Ψ j)) ⊣⊢ iprop(bigSepL l Φ ∗ bigSepL l Ψ) := by
  induction l with
  | nil => exact ⟨Entails.of_eq (both Laws.emp_sep).symm, Entails.of_eq (both Laws.emp_sep)⟩
  | cons j l ih =>
    rw [bigSepL_cons', bigSepL_cons', bigSepL_cons', both ih]
    constructor
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

theorem itemsR_done (c : Dev nD) (l : List Blk) : itemsR x c (doneI l) = bigSepL l fun b => iprop(halfB x c true b ∗ halfB x c false b) := by
  unfold doneI
  rw [itemsR_append, itemsR_map, itemsR_map]
  exact (both (bigSepL_pairs l (halfB x c true) (halfB x c false))).symm

theorem itemsR_perm (c : Dev nD) {l l' : List Item} (h : l.Perm l') : itemsR x c l = itemsR x c l' := by
  induction h with
  | nil => rfl
  | cons i _ ih => rw [itemsR_cons, itemsR_cons, ih]
  | swap i j l =>
    rw [itemsR_cons, itemsR_cons, itemsR_cons, itemsR_cons]
    exact both Laws.sep_left_comm
  | trans _ _ ih ih' => exact ih.trans ih'

/-- Taking items out of a list splits it. -/
theorem takeOut_items (c : Dev nD) : ∀ (n s r : List Item), takeOut n s = some r → itemsR x c s = iprop(itemsR x c n ∗ itemsR x c r)
  | [], s, r, h => by
    unfold takeOut at h
    rw [← Option.some.inj h, itemsR_nil]
    exact (both Laws.emp_sep).symm
  | i :: n, s, r, h => by
    unfold takeOut at h
    by_cases hi : i ∈ s
    · rw [if_pos hi] at h
      rw [itemsR_perm x c (List.perm_cons_erase hi), itemsR_cons, itemsR_cons, takeOut_items c n _ r h]
      exact (both Laws.sep_assoc).symm
    · rw [if_neg hi] at h; exact absurd h (Option.some_ne_none r).symm

end Cert.KernelIdeal.Gather

end
-- ==== Proof.Ideal.Steps.lean ====
/-
  Each action of the body as a rule on items, and the body's run as their sequence.
-/
module

public import proofs.«01_k».proof.Proof.Ideal.Blocks

@[expose] public section

set_option maxRecDepth 10000

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (x : Dev nD → XBuf F) (K : Dev nD × Role → ℕ)

/-- A device's run of a program, to a postcondition. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- What every device knows: the semaphores' invariants, each at its round, and the levels. -/
def records : sProp 𝕄 :=
  iprop((bigSep Finset.univ fun k : Dev nD × Role => iprop(cellInv ER (rd x) (K k) (cell k.1 k.2) ∗ reached ER (cell k.1 k.2) 0)) ∗ levAts L lv)

instance records_persistent : BI.Persistent (records x K) := by unfold records; infer_instance

theorem records_cell (c : Dev nD) (r : Role) : records x K ⊢ iprop(cellInv ER (rd x) (K (c, r)) (cell c r) ∗ reached ER (cell c r) 0) := by
  have h : (bigSep Finset.univ fun k : Dev nD × Role => (iprop(cellInv ER (rd x) (K k) (cell k.1 k.2) ∗ reached ER (cell k.1 k.2) 0) : sProp 𝕄))
      ⊢ iprop(cellInv ER (rd x) (K (c, r)) (cell c r) ∗ reached ER (cell c r) 0) := bigSep_elim (Finset.mem_univ (c, r))
  unfold records
  iintro ⟨H, -⟩
  iapply h
  iexact H
theorem records_lev : records x K ⊢ (levAts L lv : sProp 𝕄) := by
  unfold records
  iintro ⟨-, H⟩
  iexact H

/-- What a device still owes, whatever it has waited for. -/
def dueR (c : Dev nD) (l : List Due) : sProp 𝕄 := iprop(∃ W : Waits sig Unit, owes (c : Thread nD τ) (dues c l) W)

/-! ## Waits -/

/-- A wait for a whole round: the semaphore is done with, and the round's payments are the device's. -/
theorem wait_rule (c : Dev nD) (r : Role) (n : ℕ) (w : TpuEff nD τ sig (Elt F) Λ₀ .tc PUnit)
    (hw : ∀ K' : PUnit → sProp 𝕄, wpE (defs₀ (F := F)) 𝒱₀ (c : Thread nD τ) none Set.univ w K' = waitSpec (c : Thread nD τ) Set.univ (semOf r) n K')
    (hn : n = (rd x).expect (cell c r) 0) (P : sProp 𝕄)
    (hP : (bigSep (dutiesOf (some r)) fun d => payOf x c d (some r)) = P) (l : List Due) (hl : ∀ d ∈ l, roleLv (some r) < dueLv d)
    (k : PUnit → Prog (TpuEff nD τ sig (Elt F) Λ₀ .tc) PUnit) (Q : PUnit → sProp 𝕄) :
    iprop(records x K ∗ (atPos ER (cell c r) 0 ∅ 0 ∗ cred (tallyAt (cell c r) () n)) ∗ dueR c l)
      ⊢ iprop((((semVal (cell c r) 0 ∗ P) ∗ dueR c l) -∗ runs c (k ⟨⟩) Q)
          -∗ runs c (.op w k) Q) := by
  have hmay : records x K ⊢ MayWait (c : Thread nD τ) (semOf r) () (dues c l) :=
    (records_lev x K).trans (may_wait c (semOf r) l (by rw [roleOf_semOf]; exact hl))
  unfold dueR
  iintro ⟨#Hrec, ⟨Hat, Hc⟩, ⟨%W, HO⟩⟩ Hk
  ihave Hcell := (records_cell x K c r) $$ Hrec
  icases Hcell with ⟨#HI, -⟩
  iapply (Rounds.wp_wait_rest_token 𝒱₀ ER (rd x) (c : Thread nD τ) none (κ := K (c, r)) hw (Set.mem_univ _) () (O := dues c l) (W := W)
      (R := 0) (m := 0) (T := ∅) ((Nat.zero_add n).trans hn)) $$ [Hc HO Hat]
  · isplitr; · iexact HI
    isplitl [Hc]; · iexact Hc
    isplitl [HO]; · iexact HO
    isplitr
    · iapply hmay; iexact Hrec
    iexact Hat
  iintro ⟨HO, Hat, -, Hpay⟩
  ihave Hpay := (Entails.of_eq ((rest_cell x c r).trans hP)) $$ Hpay
  imod (Rounds.cell_close ER (rd x) (Set.mem_univ (K (c, r))) (fun h => h) (R := 0 + 1) (duties_later x (cell c r))) $$ [Hat] with Hz
  · isplitr; · iexact HI
    iexact Hat
  iapply Hk
  isplitl [Hz Hpay]
  · isplitl [Hz]; · iexact Hz
    iexact Hpay
  iexists _; iexact HO

/-- The wait for a copy's size is a wait for the copy's units. -/
theorem waitP_form (c : Dev nD) (s : DmaSem sig) (t : Xfer) : ∃ w : TpuEff nD τ sig (Elt F) Λ₀ .tc PUnit,
    (∀ k : PUnit → Prog (TpuEff nD τ sig (Elt F) Λ₀ .tc) PUnit, (waitP (F := F) c s t >>= k) = .op w k)
    ∧ ∀ K' : PUnit → sProp 𝕄, wpE (defs₀ (F := F)) 𝒱₀ (c : Thread nD τ) none Set.univ w K' = waitSpec (c : Thread nD τ) Set.univ (.dma s) (amt t) K' := by
  rcases t with h | ⟨i, k⟩ | ⟨i, k⟩ <;> exact ⟨_, fun k => rfl, fun K' => wpE_waitDma2_eq 𝒱₀ (c : Thread nD τ) none Set.univ K'⟩

/-! ## The rules -/

/-- A rule for an action: what it takes, what it gives, what is left to pay. -/
def Rule (c : Dev nD) (a : Act) (l l' : List Due) : Prop :=
  ∀ (k : PUnit → Prog (TpuEff nD τ sig (Elt F) Λ₀ .tc) PUnit) (Q : PUnit → sProp 𝕄),
    iprop(records x K ∗ itemsR x c (takes a) ∗ dueR c l)
      ⊢ iprop(((itemsR x c (puts a) ∗ dueR c l') -∗ runs c (k ⟨⟩) Q) -∗ runs c (actP c a >>= k) Q)

theorem rule_sent (c : Dev nD) (t : Xfer) (l : List Due) (hl : ∀ d ∈ l, waitsAt (.sent t) < dueLv d) : Rule x K c (.sent t) l l := by
  intro k Q
  obtain ⟨w, e, hw⟩ := waitP_form (F := F) c (sendS t) t
  have ep : itemsR x c (puts (.sent t)) = iprop(semVal (cell c (.snd t)) 0 ∗ sndPay x c t) := by
    rw [show puts (.sent t) = .sndOut t :: (srcB t).map (.half (side t)) from rfl, itemsR_cons, itemsR_map]; rfl
  rw [ep, show actP (F := F) c (.sent t) = waitP c (sendS t) t from rfl, e]
  exact wait_rule x K c (.snd t) (amt t) w hw (by rw [expect_cell]; exact (Nat.one_mul _).symm) _ bigSep_singleton l hl k Q

theorem rule_got (c : Dev nD) (t : Xfer) (l : List Due) (hl : ∀ d ∈ l, waitsAt (.got t) < dueLv d) : Rule x K c (.got t) l l := by
  intro k Q
  obtain ⟨w, e, hw⟩ := waitP_form (F := F) c (recvS t) t
  have ep : itemsR x c (puts (.got t)) = iprop(semVal (cell c (.rcv t)) 0 ∗ rcvPay x c t) := by
    rw [show puts (.got t) = .rcvOut t :: doneI (dstB t) from rfl, itemsR_cons, itemsR_done]; rfl
  rw [ep, show actP (F := F) c (.got t) = waitP c (recvS t) t from rfl, e]
  exact wait_rule x K c (.rcv t) (amt t) w hw (by rw [expect_cell]; exact (Nat.one_mul _).symm) _ bigSep_singleton l hl k Q

theorem rule_bar (c : Dev nD) (l : List Due) (hl : ∀ d ∈ l, waitsAt .bar < dueLv d) : Rule x K c .bar l l := by
  intro k Q
  have ep : itemsR x c (puts .bar) = iprop(semVal (cell c .bar) 0 ∗ barPay (F := F) c 0 ∗ barPay (F := F) c 1 ∗ barPay (F := F) c 2) := by
    rw [show puts .bar = .barOut :: ((handB 0).map (.far 0) ++ ((handB 1).map (.far 1) ++ (handB 2).map (.far 2))) from rfl,
      itemsR_cons, itemsR_append, itemsR_append, itemsR_map, itemsR_map, itemsR_map]; rfl
  rw [ep]
  exact wait_rule x K c .bar 3 (.semWait barS 3) (fun K' => wpE_semWait_eq 𝒱₀ (c : Thread nD τ) none Set.univ K') (by rw [expect_cell]; decide) _
    (bigSep_univ_eq_bigSepL [0, 1, 2] (by decide) (by decide) _) l hl k Q

/-! ## Payments -/

theorem rule_sig (c : Dev nD) (j : Fin 3) (l : List Due) : Rule x K c (.sig j) (.sig j :: l) l := by
  intro k Q
  have hc := records_cell x K (against j c) .bar
  have hp : (rd x).payload (cell (against j c) .bar) 0 j = bigSepL (handB j) (anyB c) := by
    rw [payload_cell]
    show bigSepL (handB j) (fun b => anyB (toward j (against j c)) b) = _
    rw [toward_against]
  show _ ⊢ iprop(_ -∗ runs c (.op (.semSignal (Dev.tc (sigDev c j)) barS 1) k) Q)
  have et : itemsR x c (takes (.sig j)) = iprop(dutyTok ER (cell (against j c) .bar) 0 j ∗ bigSepL (handB j) (anyB (F := F) c)) := by
    rw [show takes (.sig j) = .sigTok j :: (handB j).map .any from rfl, itemsR_cons, itemsR_map]; rfl
  have hs : ∀ W : Waits sig Unit, iprop(cellInv ER (rd x) (K (against j c, .bar)) (cell (against j c) .bar) ∗ owes (c : Thread nD τ) (dues c (.sig j :: l)) W
        ∗ dutyTok ER (cell (against j c) .bar) 0 j ∗ (rd x).payload (cell (against j c) .bar) 0 j ∗ reached ER (cell (against j c) .bar) 0)
      ⊢ iprop((owes (c : Thread nD τ) (dues c l) W -∗ runs c (k ⟨⟩) Q) -∗ runs c (.op (.semSignal (Dev.tc (against j c)) barS 1) k) Q) := fun W =>
    Rounds.wp_signal 𝒱₀ ER (rd x) (c : Thread nD τ) none (dst := (against j c : Thread nD τ)) (κ := K (against j c, .bar))
      (r := 0) (d := j) ((duties_cell x (against j c) .bar).symm ▸ Finset.mem_univ j) (amount_cell x (against j c) .bar j) () (dues c l) rfl
  rw [sigDev_eq, et, show puts (.sig j) = [] from rfl, itemsR_nil]
  unfold dueR
  iintro ⟨#Hrec, ⟨Ht, Hb⟩, ⟨%W, HO⟩⟩ Hk
  ihave Hcell := hc $$ Hrec
  icases Hcell with ⟨#HI, #Hr⟩
  iapply (hs W) $$ [HO Ht Hb]
  · isplitr; · iexact HI
    isplitl [HO]; · iexact HO
    isplitl [Ht]; · iexact Ht
    isplitl [Hb]
    · iapply (Entails.of_eq hp.symm); iexact Hb
    iexact Hr
  iintro HO
  iapply Hk
  isplitr; · iempintro
  iexists W; iexact HO

theorem srcB_nodup (t : Xfer) : (srcB t).Nodup := by
  have h : ∀ t ∈ allX, (srcB t).Nodup := by decide
  exact h t (mem_allX t)
theorem dstB_nodup (t : Xfer) : (dstB t).Nodup := by
  have h : ∀ t ∈ allX, (dstB t).Nodup := by decide
  exact h t (mem_allX t)

/-- What a copy reads is what its destination is to hold. -/
theorem copy_value (c : Dev nD) (t : Xfer) (i : OIdx) (hi : i ∈ span ((srcB t).map (row c))) : fin x c i = fin x (toward (dir t) c) i := by
  obtain ⟨n, hn, hi⟩ := mem_span.mp hi
  obtain ⟨b, hb, rfl⟩ := List.mem_map.mp hn
  rw [← rows_match] at hn
  obtain ⟨b', hb', e⟩ := List.mem_map.mp hn
  exact fin_agree x c t b b' hb hb' e i hi

/-- A remote copy of a slice of the result, over the same slice of the neighbour's. -/
theorem send_rule (c n : Dev nD) (t : Xfer) (hn : n = toward (dir t) c) (l : List Due) (R : Rect S32768x1024) (hR : ∀ a, R.stride a = 1)
    (hset : (oM.slice R hR).view.set = span ((srcB t).map (row c))) (hamt : (oM.slice R hR).view.amount (.dma (recvS t)) = amt t)
    {hsc : (oM.slice R hR : Memref sig (Dev.tc n : Thread nD τ).2.kind .hbm R.shape .bf16).view.ref.isScScratch = false}
    {hsrc : (oM.slice R hR).view.WordExact} {hdst : (oM.slice R hR).view.WordExact}
    {hsem : DmaTarget.Typed .hbm (.dma (recvS t)) (.remote (Dev.tc n : Thread nD τ) (oM.slice R hR) (.dma (sendS t)) hsc)}
    (k : PUnit → Prog (TpuEff nD τ sig (Elt F) Λ₀ .tc) PUnit) (Q : PUnit → sProp 𝕄) :
    iprop(records x K ∗ itemsR x c (takes (.start t)) ∗ dueR c (.copy t :: l))
      ⊢ iprop(((itemsR x c (puts (.start t)) ∗ dueR c l) -∗ runs c (k ⟨⟩) Q)
          -∗ runs c (.op (.enqueueDma (oM.slice R hR) (.remote (Dev.tc n : Thread nD τ) (oM.slice R hR) (.dma (sendS t)) hsc) (.dma (recvS t)) hsrc hdst hsem) k) Q) := by
  subst hn
  have hc₁ := records_cell x K c (.snd t)
  have hc₂ := records_cell x K (toward (dir t) c) (.rcv t)
  have hfar : (bigSepL (dstB t) fun b => anyB (F := F) (toward (dir t) c) b)
      ⊢ iprop(∃ f : OBuf F, ((toward (dir t) c : Thread nD τ).loc main_v1) ↦[(oM.slice R hR).view.set]{fullShare} f) := by
    have h := anys_pts (toward (dir t) c) (fin x c) (dstB t) (dstB_nodup t)
    rw [rows_match] at h
    rw [hset]; exact h
  have hsrc' : (bigSepL (srcB t) fun b => halfB x c (side t) b) = (((c : Thread nD τ).loc main_v1) ↦[(oM.slice R hR).view.set]{sh (side t)} fin x c) := by
    rw [hset]; exact halves_pts x c (side t) (srcB t) (srcB_nodup t)
  have hpay : ∀ f : OBuf F, (((toward (dir t) c : Thread nD τ).loc main_v1) ↦[(oM.slice R hR).view.set]{fullShare}
      ((oM.slice R hR).view.write (Elt F) f ((oM.slice R hR).view.read (Elt F) (fin x c)) Finset.univ) : sProp 𝕄) = rcvPay x (toward (dir t) c) t := by
    intro f
    rw [View.write_read_eq_piecewise, hset]
    have h := pts_done x (toward (dir t) c) (dstB t) (dstB_nodup t)
      ((oM.slice R hR).view.set.piecewise (fin x c) f) (fun i hi => by
        rw [rows_match] at hi
        rw [hset, Finset.piecewise_eq_of_mem _ _ _ hi]
        exact copy_value x c t i hi)
    rw [rows_match] at h
    exact h
  have et : itemsR x c (takes (.start t)) = iprop((dutyTok ER (cell c (.snd t)) 0 0 ∗ dutyTok ER (cell (toward (dir t) c) (.rcv t)) 0 0)
      ∗ (bigSepL (srcB t) fun b => halfB x c (side t) b) ∗ bigSepL (dstB t) fun b => anyB (F := F) (toward (dir t) c) b) := by
    rw [show takes (.start t) = .copyTok t :: ((srcB t).map (.half (side t)) ++ (dstB t).map (.far (dir t))) from rfl,
      itemsR_cons, itemsR_append, itemsR_map, itemsR_map]; rfl
  have hs : ∀ (W : Waits sig Unit) (f : OBuf F),
      iprop(cellInv ER (rd x) (K (c, .snd t)) (cell c (.snd t)) ∗ cellInv ER (rd x) (K (toward (dir t) c, .rcv t)) (cell (toward (dir t) c) (.rcv t))
        ∗ (((c : Thread nD τ).loc main_v1) ↦[(oM.slice R hR).view.set]{sh (side t)} fin x c)
        ∗ (((toward (dir t) c : Thread nD τ).loc main_v1) ↦[(oM.slice R hR).view.set]{fullShare} f)
        ∗ owes (c : Thread nD τ) (dues c (.copy t :: l)) W
        ∗ dutyTok ER (cell c (.snd t)) 0 0 ∗ reached ER (cell c (.snd t)) 0
        ∗ dutyTok ER (cell (toward (dir t) c) (.rcv t)) 0 0 ∗ reached ER (cell (toward (dir t) c) (.rcv t)) 0)
      ⊢ iprop(((cred (tallyAt (cell c (.snd t)) () (amt t)) ∗ owes (c : Thread nD τ) (dues c l) W) -∗ runs c (k ⟨⟩) Q)
        -∗ runs c (.op (.enqueueDma (oM.slice R hR) (.remote (Dev.tc (toward (dir t) c) : Thread nD τ) (oM.slice R hR) (.dma (sendS t)) hsc)
          (.dma (recvS t)) hsrc hdst hsem) k) Q) := fun W f =>
    Rounds.wp_send_pointsTo 𝒱₀ ER (rd x) (c : Thread nD τ) none (c' := (toward (dir t) c : Thread nD τ)) (src := oM.slice R hR) (dst := oM.slice R hR)
      (sS := .dma (sendS t)) (sem := .dma (recvS t)) (κ₁ := K (c, .snd t)) (κ₂ := K (toward (dir t) c, .rcv t))
      (r₁ := 0) (r₂ := 0) (d₁ := 0) (d₂ := 0) (fs := fin x c) (fd := f)
      ((duties_cell x c (.snd t)).symm ▸ Finset.mem_singleton_self _) ((duties_cell x (toward (dir t) c) (.rcv t)).symm ▸ Finset.mem_singleton_self _)
      () () (amt t) hamt (amount_cell x c (.snd t) 0) (amount_cell x (toward (dir t) c) (.rcv t) 0) (dues c l) rfl (W := W)
      (Entails.of_eq (hsrc'.symm.trans (payload_cell x c (.snd t) 0).symm)) (Entails.of_eq ((hpay f).trans (payload_cell x (toward (dir t) c) (.rcv t) 0).symm))
  rw [et, show itemsR x c (puts (.start t)) = cred (tallyAt (cell c (.snd t)) () (amt t)) from rfl]
  unfold dueR
  iintro ⟨#Hrec, ⟨⟨Ht₁, Ht₂⟩, Hs, Hd⟩, ⟨%W, HO⟩⟩ Hk
  ihave Hcell := hc₁ $$ Hrec
  icases Hcell with ⟨#HI₁, #Hr₁⟩
  ihave Hcell := hc₂ $$ Hrec
  icases Hcell with ⟨#HI₂, #Hr₂⟩
  ihave Hs := (Entails.of_eq hsrc') $$ Hs
  ihave Hd := hfar $$ Hd
  icases Hd with ⟨%f, Hd⟩
  iapply (hs W f) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hf, HO⟩
  iapply Hk
  isplitl [Hf]; · iexact Hf
  iexists W; iexact HO

end Cert.KernelIdeal.Gather

end
-- ==== Proof.Ideal.Run.lean ====
/-
  The remaining two rules — starting a copy, converting a tile — and the body's run.
-/
module

public import proofs.«01_k».proof.Proof.Ideal.Steps

@[expose] public section

set_option maxRecDepth 10000

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → XBuf F) (K : Dev nD × Role → ℕ)

/-! ## Starting a copy -/

theorem up_span (c : Dev nD) (h : Fin 3) : (uM c h).view.set = span ((srcB (.up h)).map (row c)) := by
  rw [up_set, show (srcB (.up h)).map (row c) = [xRow c (.up h), xRow c (.up h) + 1] by fin_cases h <;> rfl]
  exact congrArg (blk (xRow c (.up h)) ∪ ·) (Finset.union_empty _).symm
theorem cw_span (c : Dev nD) (i k : Fin 3) : (rM c i k).view.set = span ((srcB (.cw i k)).map (row c)) :=
  (cw_set c i k).trans (Finset.union_empty _).symm
theorem ccw_span (c : Dev nD) (i k : Fin 3) : (lM c i k).view.set = span ((srcB (.ccw i k)).map (row c)) :=
  (ccw_set c i k).trans (Finset.union_empty _).symm

theorem rule_start (c : Dev nD) (t : Xfer) (l : List Due) : Rule x K c (.start t) (.copy t :: l) l := by
  intro k Q
  rcases t with h | ⟨i, m⟩ | ⟨i, m⟩
  · exact send_rule x K c _ (.up h) (xDev_eq c _) l _ _ (up_span c h) rfl k Q
  · exact send_rule x K c _ (.cw i m) (xDev_eq c _) l _ _ (cw_span c i m) rfl k Q
  · exact send_rule x K c _ (.ccw i m) (xDev_eq c _) l _ _ (ccw_span c i m) rfl k Q

/-! ## Converting a tile -/

theorem oT_span (c : Dev nD) (t : Fin 4) : (oT c t).view.set = span (([(3, t, 0), (3, t, 1)] : List Blk).map (row c)) := by
  rw [oT_set]
  exact congrArg (blk (row c (3, t, 0)) ∪ ·) (Finset.union_empty _).symm

theorem roleOf_local : roleOf (.dma localS) = none := by decide +kernel

theorem zero_off : (![0, 0] : Fin 2 → Nat) = fun _ => 0 := funext fun a => by fin_cases a <;> rfl

/-- A local copy and the wait for it, as one rule: the destination holds what was read. -/
theorem copy_rule (c : Dev nD) {sp sp' : Space} {s : Shape} {e : EltTy} (src : Memref sig .tc sp s e) (dst : Memref sig .tc sp' s e)
    {hsrc : src.view.WordExact} {hdst : dst.view.WordExact} {hsem : DmaTarget.Typed (nD := nD) (τ := τ) (p := .tc) sp (.dma localS) (.here dst)}
    (hs : 0 < s.numel) (fs : Buf (Elt F) (src.view.loc (c : Thread nD τ))) (fd : Buf (Elt F) (dst.view.loc (c : Thread nD τ)))
    (l : List Due) (hl : ∀ d ∈ l, 0 < dueLv d)
    (k : PUnit → Prog (TpuEff nD τ sig (Elt F) Λ₀ .tc) PUnit) (Q : PUnit → sProp 𝕄) :
    iprop((levAts L lv : sProp 𝕄) ∗ (src.view.loc (c : Thread nD τ) ↦[src.view.set]{fullShare} fs) ∗ (dst.view.loc (c : Thread nD τ) ↦[dst.view.set]{fullShare} fd)
        ∗ semVal ((c : Thread nD τ), SemLoc.dma localS) 0 ∗ dueR c l)
      ⊢ iprop((((src.view.loc (c : Thread nD τ) ↦[src.view.set]{fullShare} fs)
            ∗ (dst.view.loc (c : Thread nD τ) ↦[dst.view.set]{fullShare} (dst.view.write (Elt F) fd (src.view.read (Elt F) fs) Finset.univ))
            ∗ semVal ((c : Thread nD τ), SemLoc.dma localS) 0 ∗ dueR c l) -∗ runs c (k ⟨⟩) Q)
          -∗ runs c (.op (.enqueueDma src (.here dst) (.dma localS) hsrc hdst hsem) fun _ => .op (.waitDma2 localS src dst hsrc hdst) k) Q) := by
  have hmay : (levAts L lv : sProp 𝕄) ⊢ MayWait (c : Thread nD τ) (.dma localS) () (dues c l) :=
    may_wait c (.dma localS) l (by rw [roleOf_local]; exact hl)
  unfold dueR
  iintro ⟨Hlev, Hs, Hd, Hv, ⟨%W, HO⟩⟩ Hk
  iapply (Transfers.wp_dmaLocal EC 𝒱₀ (c : Thread nD τ) none () dst.view.dmaCredit rfl (View.dmaCredit_pos _ hs) (Finset.Subset.refl _)) $$ [Hs Hd Hv]
  · isplitl [Hs]; · iexact Hs
    isplitl [Hd] <;> iassumption
  iintro Hf
  iapply (Transfers.wp_waitLocalO EC 𝒱₀ (c : Thread nD τ) none () rfl (O := dues c l) (W := W)) $$ [Hf HO Hlev]
  · isplitl [Hf]; · iexact Hf
    isplitl [HO]; · iexact HO
    iapply hmay; iexact Hlev
  iintro ⟨⟨Hd, Hs⟩, Hv, HO⟩
  iapply Hk
  isplitl [Hs]; · iexact Hs
  isplitl [Hd]; · iexact Hd
  isplitl [Hv]; · iexact Hv
  iexists _; iexact HO

theorem iM_set : (iM : Memref sig .tc .vmem S2048x1024 .f32).view.set = Finset.univ := View.set_whole _
theorem cM_set : (cM : Memref sig .tc .vmem S2048x1024 .bf16).view.set = Finset.univ := View.set_whole _

/-- A load of the whole staging buffer reads its contents; a store over the whole of the other replaces them. -/
theorem read_i (f : (cc0_scratch0 : Ref sig .tc).ty.Contents (Elt F)) : (iM : Memref sig .tc .vmem S2048x1024 .f32).view.readAt (Elt F) r0.toLoadRect f = f :=
  Memref.readAt_unit_zero (Elt F) cc0_scratch0 zero_off _ f
theorem write_c (f w : (cc0_scratch1 : Ref sig .tc).ty.Contents (Elt F)) :
    ((cM : Memref sig .tc .vmem S2048x1024 .bf16).access r0 : View sig .tc _ _ _).write (Elt F) f w Finset.univ = w :=
  Memref.write_access_unit_zero_univ (Elt F) cc0_scratch1 zero_off _ f w

/-- The two blocks of a tile, to be written, are its region at some contents; -/
theorem tile_any (c : Dev nD) (t : Fin 4) : iprop(anyB (F := F) c (3, t, 0) ∗ anyB (F := F) c (3, t, 1))
    ⊢ iprop(∃ f : OBuf F, ((c : Thread nD τ).loc main_v1) ↦[(oT c t).view.set]{fullShare} f) := by
  unfold anyB
  iintro ⟨⟨%f, H0⟩, ⟨%g, H1⟩⟩
  have h : iprop(pt c (row c (3, t, 0)) fullShare f ∗ pt c (row c (3, t, 1)) fullShare g)
      ⊢ (((c : Thread nD τ).loc main_v1) ↦[(oT c t).view.set]{fullShare} ((blk (row c (3, t, 1))).piecewise g f) : sProp 𝕄) := by
    rw [oT_set]
    exact pointsTo_join (blk_disjoint fun e => absurd (row_inj c e) (by decide +revert))
  iexists _
  iapply h
  isplitl [H0] <;> iassumption

/-- and the region with the tile's cast written is both half shares of each. -/
theorem tile_done (c : Dev nD) (t : Fin 4) (f : OBuf F) :
    (((c : Thread nD τ).loc main_v1) ↦[(oT c t).view.set]{fullShare}
      ((oT c t).view.write (Elt F) f (k0_pay1 ((xT c t).view.read (Elt F) (x c))) Finset.univ) : sProp 𝕄) = itemsR x c (doneI [(3, t, 0), (3, t, 1)]) := by
  rw [itemsR_done, ← pts_done x c [(3, t, 0), (3, t, 1)] (by decide +revert) _ (fun i hi => tile_value x c t f i (oT_span c t ▸ hi)), oT_span]
  rfl

theorem rule_tile (c : Dev nD) (t : Fin 4) (l : List Due) (hl : ∀ d ∈ l, waitsAt (.tile t) < dueLv d) : Rule x K c (.tile t) l l := by
  intro k Q
  have hlev := records_lev x K
  have hx : ((((c : Thread nD τ).loc main_arg0) ↦{fullShare} x c) : sProp 𝕄)
      = iprop((((c : Thread nD τ).loc main_arg0) ↦[(xT c t).view.set]{fullShare} x c) ∗ (((c : Thread nD τ).loc main_arg0) ↦[Finset.univ \ (xT c t).view.set]{fullShare} x c)) :=
    both (pointsTo_split_subset (Finset.subset_univ _))
  have et : itemsR x c (takes (.tile t)) = iprop(ownR x c ∗ anyB (F := F) c (3, t, 0) ∗ anyB (F := F) c (3, t, 1)) := rfl
  have ep : itemsR x c (puts (.tile t)) = iprop(ownR x c ∗ itemsR x c (doneI [(3, t, 0), (3, t, 1)])) := itemsR_cons x c _ _
  rw [et, ep, show actP (F := F) c (.tile t) = tileP c t from rfl]
  unfold tileP ownR
  simp only [Prog.lift, Prog.bind_op, Prog.bind_ret, Prog.pure_eq_ret]
  iintro ⟨#Hrec, ⟨⟨Hx, ⟨%fi, Hi⟩, ⟨%fc, Hc⟩, Hv⟩, Ho⟩, HO⟩ Hk
  ihave #Hlev := hlev $$ Hrec
  ihave Ho := (tile_any c t) $$ Ho
  icases Ho with ⟨%fo, Ho⟩
  ihave Hx := (Entails.of_eq hx) $$ Hx
  icases Hx with ⟨Hx, Hxr⟩
  iapply (copy_rule c (xT c t) iM (by decide) (x c) fi l hl) $$ [Hx Hi Hv HO]
  · isplitr; · iexact Hlev
    isplitl [Hx]; · iexact Hx
    isplitl [Hi]; · rw [iM_set]; iexact Hi
    isplitl [Hv] <;> iassumption
  iintro ⟨Hx, Hi, Hv, HO⟩
  ihave Hi := (Entails.of_eq (congrArg (fun f => (((c : Thread nD τ).loc cc0_scratch0) ↦[(iM : Memref sig .tc .vmem S2048x1024 .f32).view.set]{fullShare} f : sProp 𝕄))
    (View.write_whole_univ cc0_scratch0 fi ((xT c t).view.read (Elt F) (x c))))) $$ Hi
  iapply (wp_load 𝒱₀ (c : Thread nD τ) none Set.univ (m := iM) (by rw [iM_set]; exact Finset.subset_univ _)) $$ Hi
  iintro Hi
  iapply (wp_load 𝒱₀ (c : Thread nD τ) none Set.univ (m := cM) (Finset.subset_univ _)) $$ Hc
  iintro Hc
  iapply (wp_store 𝒱₀ (c : Thread nD τ) none Set.univ (m := cM) (r := r0) (Mk := Finset.univ) (Finset.subset_univ _)) $$ Hc
  iintro Hc
  rw [read_i, write_c]
  iapply (copy_rule c cM (oT c t) (by decide) (k0_pay1 ((xT c t).view.read (Elt F) (x c))) fo l hl) $$ [Hc Ho Hv HO]
  · isplitr; · iexact Hlev
    isplitl [Hc]; · rw [cM_set]; iexact Hc
    isplitl [Ho]; · iexact Ho
    isplitl [Hv] <;> iassumption
  iintro ⟨Hc, Ho, Hv, HO⟩
  iapply Hk
  isplitr [HO]
  · isplitr [Ho]
    · isplitl [Hx Hxr]
      · iapply (Entails.of_eq hx.symm)
        isplitl [Hx] <;> iassumption
      isplitl [Hi]; · iexists _; rw [iM_set]; iexact Hi
      isplitl [Hc]; · iexists _; rw [cM_set]; iexact Hc
      iexact Hv
    iapply (Entails.of_eq (tile_done x c t fo)); iexact Ho
  iexact HO

/-! ## The run -/

/-- A state's resources. -/
def stR (c : Dev nD) (s : St) : sProp 𝕄 := iprop(itemsR x c s.1 ∗ dueR c s.2)

theorem payOff_some {d : Due} {l l' : List Due} (h : payOff (some d) l = some l') : l = d :: l' := by
  rcases l with _ | ⟨d', l⟩
  · exact absurd h (Option.some_ne_none l').symm
  · by_cases e : d = d'
    · subst e
      simp only [payOff, if_true, Option.some.injEq] at h
      rw [h]
    · simp only [payOff, if_neg e] at h
      exact absurd h (Option.some_ne_none l').symm

/-- An action that its state allows has its rule. -/
theorem rule_of (c : Dev nD) (a : Act) (l l' : List Due) (h : payOff (pays a) l = some l') (hl : ∀ d ∈ l', waitsAt a < dueLv d) : Rule x K c a l l' := by
  rcases a with t | j | _ | t | t | t
  · obtain rfl := Option.some.inj h; exact rule_tile x K c t _ hl
  · obtain rfl := payOff_some h; exact rule_sig x K c j _
  · obtain rfl := Option.some.inj h; exact rule_bar x K c _ hl
  · obtain rfl := payOff_some h; exact rule_start x K c t _
  · obtain rfl := Option.some.inj h; exact rule_sent x K c t _ hl
  · obtain rfl := Option.some.inj h; exact rule_got x K c t _ hl

/-- Actions in sequence, from a state that allows them. -/
theorem runs_acts (c : Dev nD) (Q : PUnit → sProp 𝕄) : ∀ (l : List Act) (s s' : St), actAll l s = some s' →
    iprop(records x K ∗ stR x c s) ⊢ iprop((stR x c s' -∗ Q ⟨⟩) -∗ runs c (runP c l) Q)
  | [], s, s', h => by
    obtain rfl := Option.some.inj h
    show _ ⊢ iprop(_ -∗ runs c (.ret ⟨⟩) Q)
    rw [runs, wp_ret]
    iintro ⟨-, H⟩ Hk
    imodintro
    iapply Hk; iexact H
  | a :: l, s, s', h => by
    unfold actAll act at h
    rcases e1 : takeOut (takes a) s.1 with _ | r
    · rw [e1] at h; exact absurd h (Option.some_ne_none s').symm
    rcases e2 : payOff (pays a) s.2 with _ | l'
    · rw [e1, e2] at h; exact absurd h (Option.some_ne_none s').symm
    rw [e1, e2] at h
    by_cases hl : ∀ d ∈ l', waitsAt a < dueLv d
    · simp only [if_pos hl] at h
      have hr := rule_of x K c a s.2 l' e2 hl (fun _ => runP c l) Q
      have ih := runs_acts c Q l _ s' h
      have e := takeOut_items x c (takes a) s.1 r e1
      unfold stR at ih ⊢
      rw [e]
      show _ ⊢ iprop(_ -∗ runs c (actP c a >>= fun _ => runP c l) Q)
      iintro ⟨#Hrec, ⟨Ht, Hr⟩, HO⟩ Hk
      iapply hr $$ [Ht HO]
      · isplitr; · iexact Hrec
        isplitl [Ht] <;> iassumption
      iintro ⟨Hp, HO⟩
      iapply ih $$ [Hp Hr HO] [Hk]
      · isplitr; · iexact Hrec
        isplitr [HO]
        · iapply (Entails.of_eq (itemsR_append x c (puts a) r).symm)
          isplitl [Hp] <;> iassumption
        iexact HO
      iexact Hk
    · simp only [if_neg hl] at h
      exact absurd h (Option.some_ne_none s').symm

/-- The body: from the items at launch to the items at the end, all paid. -/
theorem runs_body (c : Dev nD) (Q : PUnit → sProp 𝕄) :
    iprop(records x K ∗ itemsR x c initI ∗ dueR c allD) ⊢ iprop(((itemsR x c doneAll ∗ dueR c []) -∗ Q ⟨⟩)
      -∗ runs c (cc0_body (F := F) xM hx oM ho iM hi cM hc cc0_scratch2 cc0_scratch3 cc0_scratch4 cc0_scratch5 cc0_scratch6 cc0_scratch7 cc0_scratch8) Q) := by
  have h := acts_end
  rcases e : actAll acts (initI, allD) with _ | ⟨s, l⟩
  · rw [e] at h; exact absurd h Bool.false_ne_true
  rcases l with _ | ⟨d, l⟩
  · rw [e] at h
    have h' : takeOut doneAll s = some [] := eq_of_beq h
    have hs : itemsR x c s = itemsR x c doneAll := by
      rw [takeOut_items x c _ _ _ h', itemsR_nil]
      exact both Laws.sep_emp
    have hr := runs_acts x K c Q acts _ _ e
    unfold stR at hr
    rw [hs] at hr
    rw [body_flow, runs, wp_deviceId]
    exact hr
  · rw [e] at h; exact absurd h Bool.false_ne_true

end Cert.KernelIdeal.Gather

end
-- ==== Proof.Ideal.Deal.lean ====
/-
  What a launch deals the devices: each device's positions, the rights to pay others, the credit for what others owe it,
  and the blocks of its result.
-/
module

public import proofs.«01_k».proof.Proof.Ideal.Run

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → XBuf F)

/-! ## All cells, all tokens -/

theorem cell_inj : Function.Injective fun k : Dev nD × Role => cell k.1 k.2 := by
  rintro ⟨c, r⟩ ⟨c', r'⟩ h
  have h1 : c = c' := congrArg (fun g : GSem nD τ sig => g.1.1) h
  exact Prod.ext h1 (semOf_inj (congrArg Prod.snd h))

/-- A token: the cell's device and role, and which of the cell's duties. -/
abbrev Tok : Type := Dev nD × Role × Fin 3
abbrev tokAt (k : Tok) : GSem nD τ sig × ℕ × Fin 3 := (cell k.1 k.2.1, 0, k.2.2)

theorem tokAt_inj : Function.Injective tokAt := by
  rintro ⟨c, r, d⟩ ⟨c', r', d'⟩ h
  have h1 : ((c, r) : Dev nD × Role) = (c', r') := cell_inj (congrArg Prod.fst h)
  have h2 : d = d' := congrArg (fun p : GSem nD τ sig × ℕ × Fin 3 => p.2.2) h
  obtain ⟨h3, h4⟩ := Prod.mk.inj h1
  exact Prod.ext h3 (Prod.ext h4 h2)

def cells : Finset (GSem nD τ sig) := Finset.univ.map ⟨_, cell_inj⟩
def toks : Finset (GSem nD τ sig × ℕ × Fin 3) := Finset.univ.map ⟨tokAt, tokAt_inj⟩

omit [FloatOps F] in
/-- Something for every role, listed. -/
theorem roles_list (Φ : Role → sProp 𝕄) :
    bigSep Finset.univ Φ = iprop(Φ .bar ∗ bigSepL allX (fun t => Φ (.snd t)) ∗ bigSepL allX fun t => Φ (.rcv t)) := by
  rw [bigSep_univ_eq_bigSepL allR univ_role allR_nodup]
  unfold allR
  rw [bigSepL_cons', bigSepL_append, bigSepL_map, bigSepL_map]

omit [FloatOps F] in
theorem bigSep_three (Φ : Fin 3 → sProp 𝕄) : bigSep Finset.univ Φ = bigSepL [0, 1, 2] Φ :=
  bigSep_univ_eq_bigSepL [0, 1, 2] (by decide) (by decide) Φ

/-! ## The rights to pay -/

/-- Whose cell it is that a device pays, by role and duty. -/
def payee : Role → Fin 3 → Dev nD ≃ Dev nD
  | .bar, j => (turn j).symm
  | .snd _, _ => Equiv.refl _
  | .rcv t, _ => turn (dir t)

def passOn : Tok ≃ Tok where
  toFun k := (payee k.2.1 k.2.2 k.1, k.2)
  invFun k := ((payee k.2.1 k.2.2).symm k.1, k.2)
  left_inv k := Prod.ext ((payee k.2.1 k.2.2).symm_apply_apply k.1) rfl
  right_inv k := Prod.ext ((payee k.2.1 k.2.2).apply_symm_apply k.1) rfl

/-- The rights to pay that a device gets. -/
def rights (c : Dev nD) : sProp 𝕄 :=
  bigSep Finset.univ fun r : Role => bigSep Finset.univ fun d : Fin 3 => dutyTok ER (cell (payee r d c) r) 0 d

omit [FloatOps F] in
theorem toks_deal : (bigSep toks fun k => (dutyTok ER k.1 k.2.1 k.2.2 : sProp 𝕄)) = bigSep Finset.univ fun c : Dev nD => rights (F := F) c := by
  unfold toks
  rw [bigSep_map, bigSep_univ_equiv passOn, bigSep_univ_prod]
  refine bigSep_congr fun c _ => ?_
  rw [bigSep_univ_prod]
  rfl

theorem rights_items (c : Dev nD) : rights (F := F) c ⊢ iprop(itemsR x c (([0, 1, 2] : List (Fin 3)).map .sigTok) ∗ itemsR x c (allX.map .copyTok)) := by
  have h1 (g : GSem nD τ sig) : (bigSep Finset.univ fun d : Fin 3 => (dutyTok ER g 0 d : sProp 𝕄)) ⊢ dutyTok ER g 0 0 := bigSep_elim (Finset.mem_univ (0 : Fin 3))
  have hs : (bigSepL allX fun t => bigSep Finset.univ fun d : Fin 3 => (dutyTok ER (cell (payee (.snd t) d c) (.snd t)) 0 d : sProp 𝕄))
      ⊢ bigSepL allX fun t => dutyTok ER (cell c (.snd t)) 0 0 := bigSepL_mono fun t _ => h1 (cell c (.snd t))
  have hr : (bigSepL allX fun t => bigSep Finset.univ fun d : Fin 3 => (dutyTok ER (cell (payee (.rcv t) d c) (.rcv t)) 0 d : sProp 𝕄))
      ⊢ bigSepL allX fun t => dutyTok ER (cell (toward (dir t) c) (.rcv t)) 0 0 := bigSepL_mono fun t _ => h1 (cell (toward (dir t) c) (.rcv t))
  have e : itemsR x c (allX.map .copyTok) = bigSepL allX fun t => iprop(dutyTok ER (cell c (.snd t)) 0 0 ∗ dutyTok ER (cell (toward (dir t) c) (.rcv t)) 0 0) := itemsR_map x c _ _
  have e' : itemsR x c (([0, 1, 2] : List (Fin 3)).map .sigTok) = bigSepL [0, 1, 2] fun j => dutyTok ER (cell (against j c) .bar) 0 j := itemsR_map x c _ _
  unfold rights
  rw [roles_list, bigSep_three, e, e', both (bigSepL_pairs allX _ _)]
  iintro ⟨Hb, Hs, Hr⟩
  isplitl [Hb]; · iexact Hb
  isplitl [Hs]
  · iapply hs; iexact Hs
  · iapply hr; iexact Hr

/-! ## The credit -/

omit [FloatOps F] in
/-- What all devices owe by a list of dues is, for each device, a credit for each due. -/
theorem credits (c : Dev nD) (l : List Due) : (Pipeline.launchCred (fun d => dues d l) c : sProp 𝕄)
    ⊢ bigSepL l fun d => cred (tallyAt (cell c (dueRole d)) () (dueAmt d)) := by
  induction l with
  | nil => exact Entails.of_eq (Pipeline.launchCred_zero c)
  | cons d l ih =>
    have e : (Pipeline.launchCred (fun b => dues b (d :: l)) c : sProp 𝕄) = iprop(Pipeline.launchCred (fun b => dues b l) c ∗ Pipeline.launchCred (fun b => due b d) c) :=
      Pipeline.launchCred_add (fun b => dues b l) (fun b => due b d) c
    have h : (Pipeline.launchCred (fun b => due b d) c : sProp 𝕄) ⊢ cred (tallyAt (cell c (dueRole d)) () (dueAmt d)) :=
      Pipeline.launchCred_tallyAt (semOf (dueRole d)) (dueTo d) (dueTo d).symm (dueTo d).apply_symm_apply (dueTo d).symm_apply_apply () (dueAmt d) c
    rw [e, bigSepL_cons']
    iintro ⟨Hl, Hd⟩
    isplitl [Hd]
    · iapply h; iexact Hd
    · iapply ih; iexact Hl

omit [FloatOps F] in
theorem credits_all (c : Dev nD) : (Pipeline.launchCred (fun d => dues d allD) c : sProp 𝕄)
    ⊢ iprop(cred (tallyAt (cell c .bar) () 3) ∗ bigSepL allX fun t => cred (tallyAt (cell c (.rcv t)) () (amt t))) := by
  refine (credits (F := F) c allD).trans ?_
  have e3 : (tallyAt (cell c .bar) () 3 : CellTallies nD τ sig Unit) = tallyAt (cell c .bar) () 1 + (tallyAt (cell c .bar) () 1 + tallyAt (cell c .bar) () 1) := by
    rw [tallyAt_add, tallyAt_add]
  unfold allD
  rw [bigSepL_append, bigSepL_map, e3, both (cred_add _ _), both (cred_add _ _)]
  exact .rfl

/-! ## The blocks of a result -/

theorem allB_nodup : allB.Nodup := by decide +kernel
theorem mem_allB (b : Blk) : b ∈ allB := by revert b; decide +kernel

/-- The blocks fill the result. -/
theorem span_all (c : Dev nD) : span (allB.map (row c)) = Finset.univ :=
  Finset.eq_univ_of_forall fun i => by
    have hi := rowN_lt i
    obtain ⟨b, hb⟩ := row_surj c (rowN i / 1024) (by omega)
    exact mem_span.mpr ⟨_, List.mem_map_of_mem (mem_allB b), mem_blk.mpr hb.symm⟩

omit [FloatOps F] in
theorem whole_pts (c : Dev nD) (f : OBuf F) : (((c : Thread nD τ).loc main_v1) ↦{fullShare} f : sProp 𝕄) = pts c (allB.map (row c)) fullShare f := by
  unfold pts
  rw [span_all]

theorem whole_any (c : Dev nD) (f : OBuf F) : (((c : Thread nD τ).loc main_v1) ↦{fullShare} f : sProp 𝕄) ⊢ itemsR x c (allB.map .any) := by
  have h : (bigSepL allB fun b => pt c (row c b) fullShare f) ⊢ bigSepL allB fun b => anyB (F := F) c b :=
    bigSepL_mono fun b _ => by
      unfold anyB
      iintro H
      iexists f
      iexact H
  rw [whole_pts, pts_blocks c _ _ _ (nodup_rows c allB_nodup), bigSepL_map, itemsR_map]
  exact h

theorem done_whole (c : Dev nD) : itemsR x c (doneI allB) = (((c : Thread nD τ).loc main_v1) ↦{fullShare} fin x c : sProp 𝕄) := by
  rw [itemsR_done, whole_pts, pts_done x c allB allB_nodup (fin x c) fun _ _ => rfl]

end Cert.KernelIdeal.Gather

end
-- ==== Proof.Ideal.Launch.lean ====
/-
  The launch: every device gets its items, the bodies run, and the run ends with each device's result at the gathered
  blocks, its input unchanged and every semaphore at zero.
-/
module

public import proofs.«01_k».proof.Proof.Gen.KernelIdeal.Launch
public import proofs.«01_k».proof.Proof.Ideal.Deal
public import Idealize.ShloMosaic.Lib.Pipeline.CollectiveSegs

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 10000

/-! ## The semaphores -/

abbrev osem (k : DmaSem sig) : SemLoc sig := .dma k
def semList : List (DmaSem sig) := localS :: (allX.map sendS ++ allX.map recvS)

theorem ownSemFacts : Pipeline.OwnSemFacts cfg0.spec osem :=
  ⟨by decide +kernel, fun a b h => SemLoc.dma.inj h, fun _ w => w.elim0⟩

omit [FloatOps F] in
theorem ownSems_eq (c : Dev nD) : (Pipeline.ownSems0 (Ix := Unit) (Name := ℕ) (U := UU) (Lvl := ℕ) (Val := Elt F) (τ := τ) osem c : sProp 𝕄)
    = iprop(semVal ((c : Thread nD τ), SemLoc.dma localS) 0 ∗ bigSepL allX (fun t => semVal (cell c (.snd t)) 0) ∗ bigSepL allX fun t => semVal (cell c (.rcv t)) 0) := by
  rw [Pipeline.ownSems0_eq_of_list c osem semList (by decide +kernel) (by decide +kernel)]
  unfold semList
  rw [bigSepL_cons', bigSepL_append, bigSepL_map, bigSepL_map]
  rfl

omit [FloatOps F] in
theorem unscopedSems_eq (c : Dev nD) : (unscopedSems0 c : sProp 𝕄) = semVal (cell c .bar) 0 := by
  unfold unscopedSems0
  rw [bigSep_eq_bigSepL_of_eq [SemLoc.reg barS] (by decide +kernel) (by decide)]
  rfl

omit [FloatOps F] in
theorem sems_roles (c : Dev nD) :
    iprop(Pipeline.ownSems0 (Ix := Unit) (Name := ℕ) (U := UU) (Lvl := ℕ) (Val := Elt F) (τ := τ) osem c ∗ unscopedSems0 c)
      ⊢ (iprop(semVal ((c : Thread nD τ), SemLoc.dma localS) 0 ∗ bigSep Finset.univ fun r : Role => semVal (cell c r) 0) : sProp 𝕄) := by
  rw [ownSems_eq, unscopedSems_eq, roles_list]
  iintro ⟨⟨Hl, Hs, Hr⟩, Hb⟩
  isplitl [Hl]; · iexact Hl
  isplitl [Hb]; · iexact Hb
  isplitl [Hs] <;> iassumption

/-! ## The launch element -/

def u₀ : UU := (initOf (Pipeline.cells cfgs cellOf_inj) (Pipeline.launchToks cfgs cellOf_inj), (initOf cells toks, 1))

variable (m : (ℓ : Loc nD τ sig) → Buf (Elt F) ℓ) (ρ : Dev nD → PrngReg)

/-- The devices' inputs. -/
abbrev inputs (c : Dev nD) : XBuf F := m ((c : Thread nD τ).loc main_arg0)

/-- A device's share of the launch element: its cells' round states, positions and round facts, and its rights to pay. -/
def dealt (c : Dev nD) : sProp 𝕄 :=
  iprop((bigSep Finset.univ fun r : Role => roundState ER (rd (inputs m)) (cell c r) 0)
    ∗ (bigSep Finset.univ fun r : Role => iprop(atPos ER (cell c r) 0 ∅ 0 ∗ reached ER (cell c r) 0)) ∗ rights c)

omit [FloatOps F] in
theorem cells_deal (Φ : GSem nD τ sig → sProp 𝕄) : bigSep cells Φ = bigSep Finset.univ fun c : Dev nD => bigSep Finset.univ fun r : Role => Φ (cell c r) := by
  unfold cells
  rw [bigSep_map, bigSep_univ_prod]
  rfl

theorem fund_all : BI.own (ER (initOf cells toks)) ⊢ (|==> bigSep Finset.univ (dealt m) : sProp 𝕄) := by
  iintro H
  imod (Rounds.fund ER (rd (inputs m)) cells toks) $$ H with ⟨Hst, Hre, Hat, Htok⟩
  imodintro
  ihave Hst := (Entails.of_eq (cells_deal fun g => roundState ER (rd (inputs m)) g 0)) $$ Hst
  ihave Hat := (Entails.of_eq (cells_deal fun g => atPos ER g 0 ∅ 0)) $$ Hat
  ihave Hre := (Entails.of_eq (cells_deal fun g => reached ER g 0)) $$ Hre
  ihave Htok := (Entails.of_eq (toks_deal (F := F))) $$ Htok
  unfold dealt
  simp only [bigSep_sep']
  isplitl [Hst]; · iexact Hst
  isplitl [Hat Hre]
  · isplitl [Hat] <;> iassumption
  iexact Htok

/-- What stays with a device: its local semaphore, its positions and its rights to pay. -/
def kept (c : Dev nD) : sProp 𝕄 :=
  iprop(semVal ((c : Thread nD τ), SemLoc.dma localS) 0 ∗ (bigSep Finset.univ fun r : Role => atPos ER (cell c r) 0 ∅ 0) ∗ rights c)

/-- What all devices know of the semaphores. -/
def known (K : Dev nD × Role → ℕ) : sProp 𝕄 :=
  bigSep Finset.univ fun k : Dev nD × Role => iprop(cellInv ER (rd (inputs m)) (K k) (cell k.1 k.2) ∗ reached ER (cell k.1 k.2) 0)

instance known_persistent (K : Dev nD × Role → ℕ) : BI.Persistent (known m K) := by unfold known; infer_instance

/-- A device's semaphores become shared cells. -/
theorem cells_open (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun r : Role => iprop((∃ κ : ℕ, cellInv ER (rd (inputs m)) κ (cell c r)) ∗ reached ER (cell c r) 0)) ∗ kept c) := by
  have halloc : iprop((bigSep Finset.univ fun r : Role => semVal (cell c r) 0) ∗ bigSep Finset.univ fun r : Role => roundState ER (rd (inputs m)) (cell c r) 0)
      ⊢ (|={Set.univ}=> bigSep Finset.univ fun r : Role => iprop(∃ κ : ℕ, cellInv ER (rd (inputs m)) κ (cell c r)) : sProp 𝕄) := by
    rw [← bigSep_sep']
    exact (bigSep_mono fun r _ => (Rounds.body_intro ER (rd (inputs m)) (cell c r)).trans inv_alloc).trans (bigSep_fupd _ _)
  unfold dealt kept
  simp only [bigSep_sep']
  iintro ⟨Ho, Hu, Hst, ⟨Hat, Hre⟩, Hri⟩
  ihave Hv := (sems_roles (F := F) c) $$ [Ho Hu]
  · isplitl [Ho] <;> iassumption
  icases Hv with ⟨Hl, Hv⟩
  imod halloc $$ [Hv Hst] with Hinv
  · isplitl [Hv] <;> iassumption
  imodintro
  isplitl [Hinv Hre]
  · isplitl [Hinv] <;> iassumption
  isplitl [Hl]; · iexact Hl
  isplitl [Hat] <;> iassumption

omit [FloatOps F] in
/-- What all know can go to each. -/
theorem to_each {R : sProp 𝕄} [BI.Persistent R] (Φ : Dev nD → sProp 𝕄) : iprop(R ∗ bigSep Finset.univ Φ) ⊢ bigSep Finset.univ fun c => iprop(R ∗ Φ c) := by
  have h : R ⊢ bigSep (Finset.univ : Finset (Dev nD)) fun _ => R := BI.bigSep_of_persistent Finset.univ R
  rw [bigSep_sep']
  exact sep_mono_left h

theorem regroup : (bigSep Finset.univ fun c : Dev nD => iprop((bigSep Finset.univ fun r : Role => iprop((∃ κ : ℕ, cellInv ER (rd (inputs m)) κ (cell c r)) ∗ reached ER (cell c r) 0)) ∗ kept (F := F) c) : sProp 𝕄)
    ⊢ bigSep Finset.univ fun c : Dev nD => iprop(∃ K, known m K ∗ kept (F := F) c) := by
  rw [bigSep_sep', ← bigSep_univ_prod (fun k : Dev nD × Role => iprop((∃ κ : ℕ, cellInv ER (rd (inputs m)) κ (cell k.1 k.2)) ∗ reached ER (cell k.1 k.2) 0)), bigSep_sep']
  iintro ⟨⟨HI, HR⟩, Hk⟩
  ihave HI := (BI.bigSep_exists_pi Finset.univ (fun (k : Dev nD × Role) (κ : ℕ) => (cellInv ER (rd (inputs m)) κ (cell k.1 k.2) : sProp 𝕄))) $$ HI
  icases HI with ⟨%K, HI⟩
  have hc (c : Dev nD) : iprop(known m K ∗ kept (F := F) c) ⊢ iprop(∃ K, known m K ∗ kept (F := F) c) := by
    iintro H
    iexists K
    iexact H
  have hK : iprop(known m K ∗ bigSep Finset.univ fun c : Dev nD => kept (F := F) c) ⊢ bigSep Finset.univ fun c : Dev nD => iprop(∃ K, known m K ∗ kept (F := F) c) :=
    (to_each (R := known m K) fun c => kept (F := F) c).trans (bigSep_mono fun c _ => hc c)
  iapply hK
  isplitr [Hk]
  · unfold known
    rw [bigSep_sep']
    isplitl [HI] <;> iassumption
  iexact Hk

/-- All devices' semaphores become shared cells at once. -/
theorem all_open : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ fun c => iprop(∃ K, known m K ∗ kept (F := F) c) :=
  ((bigSep_mono fun c _ => cells_open m c).trans (bigSep_fupd _ _)).trans (BI.fupd_mono (regroup m))

/-! ## What a device starts from and ends with -/

/-- Before the region: all but the staging buffers. -/
def start (c : Dev nD) : sProp 𝕄 :=
  iprop((∃ K, known m K ∗ kept (F := F) c) ∗ levAts L lv ∗ Pipeline.launchCred (fun d => dues d allD) c
    ∗ (((c : Thread nD τ).loc main_arg0) ↦{fullShare} inputs m c) ∗ (((c : Thread nD τ).loc main_v1) ↦{fullShare} m ((c : Thread nD τ).loc main_v1)))

/-- At the body's beginning, and at its end. -/
def before (c : Dev nD) : sProp 𝕄 := iprop(∃ K, records (inputs m) K ∗ itemsR (inputs m) c initI)
def after (c : Dev nD) : sProp 𝕄 := itemsR (inputs m) c doneAll

def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => dues c allD
    | ⟨_ + 1, _⟩ => 0

/-- The items at launch. -/
theorem items_start (c : Dev nD) :
    iprop(kept (F := F) c ∗ Pipeline.launchCred (fun d => dues d allD) c
        ∗ (((c : Thread nD τ).loc main_arg0) ↦{fullShare} inputs m c) ∗ (((c : Thread nD τ).loc main_v1) ↦{fullShare} m ((c : Thread nD τ).loc main_v1))
        ∗ Pipeline.scopedRest cfg0.spec c)
      ⊢ itemsR (inputs m) c initI := by
  have eb : itemR (inputs m) c .barIn = iprop(atPos ER (cell c .bar) 0 ∅ 0 ∗ cred (tallyAt (cell c .bar) () 3)) := rfl
  have eo : itemR (inputs m) c .own = ownR (inputs m) c := rfl
  have es : itemsR (inputs m) c (allX.map .sndIn) = bigSepL allX fun t => atPos ER (cell c (.snd t)) 0 ∅ 0 := itemsR_map _ c _ _
  have er : itemsR (inputs m) c (allX.map .rcvIn) = bigSepL allX fun t => iprop(atPos ER (cell c (.rcv t)) 0 ∅ 0 ∗ cred (tallyAt (cell c (.rcv t)) () (amt t))) := itemsR_map _ c _ _
  unfold initI kept
  rw [itemsR_cons, itemsR_cons, itemsR_append, itemsR_append, itemsR_append, itemsR_append, eb, eo, es, er, both (bigSepL_pairs allX _ _), scopedRest0_eq, roles_list]
  iintro ⟨⟨Hl, ⟨Hb, Hs, Hr⟩, Hri⟩, Hc, Hx, Ho, H0, H1⟩
  ihave Hc := (credits_all (F := F) c) $$ Hc
  icases Hc with ⟨Hcb, Hcr⟩
  ihave Hri := (rights_items (inputs m) c) $$ Hri
  icases Hri with ⟨Hsig, Hcp⟩
  isplitl [Hl Hx H0 H1]
  · unfold ownR
    isplitl [Hx]; · iexact Hx
    isplitl [H0]; · iexact H0
    isplitl [H1]; · iexact H1
    iexact Hl
  isplitl [Hb Hcb]
  · isplitl [Hb] <;> iassumption
  isplitl [Hsig]; · iexact Hsig
  isplitl [Ho]
  · iapply (whole_any (inputs m) c _); iexact Ho
  isplitl [Hcp]; · iexact Hcp
  isplitl [Hs]; · iexact Hs
  isplitl [Hr] <;> iassumption

/-- The items at the end, by what the launch takes back. -/
theorem items_end (c : Dev nD) :
    itemsR (inputs m) c doneAll ⊢ iprop(((((c : Thread nD τ).loc main_arg0) ↦{fullShare} inputs m c) ∗ (((c : Thread nD τ).loc main_v1) ↦{fullShare} fin (inputs m) c) ∗ unscopedSems0 c)
      ∗ Pipeline.ownSems0 osem c ∗ Pipeline.scopedRest cfg0.spec c) := by
  have eb : itemR (inputs m) c .barOut = semVal (cell c .bar) 0 := rfl
  have eo : itemR (inputs m) c .own = ownR (inputs m) c := rfl
  have es : itemsR (inputs m) c (allX.map .sndOut) = bigSepL allX fun t => semVal (cell c (.snd t)) 0 := itemsR_map _ c _ _
  have er : itemsR (inputs m) c (allX.map .rcvOut) = bigSepL allX fun t => semVal (cell c (.rcv t)) 0 := itemsR_map _ c _ _
  unfold doneAll
  rw [itemsR_cons, itemsR_cons, itemsR_append, itemsR_append, eb, eo, es, er, done_whole, scopedRest0_eq, ownSems_eq, unscopedSems_eq]
  unfold ownR
  iintro ⟨⟨Hx, H0, H1, Hl⟩, Hb, Ho, Hs, Hr⟩
  isplitl [Hx Ho Hb]
  · isplitl [Hx]; · iexact Hx
    isplitl [Ho] <;> iassumption
  isplitl [Hl Hs Hr]
  · isplitl [Hl]; · iexact Hl
    isplitl [Hs] <;> iassumption
  isplitl [H0] <;> iassumption

/-! ## The body, as the launch asks for it -/

theorem body_obligation (c : Dev nD) : BodyObligation (dats m 0 c) (defs₀ (F := F)) 𝒱₀ () Set.univ := fun t => by
  rw [fin_N0 t, show (Finset.univ : Finset (Fin cfg0.W)) = ∅ from rfl, bigSep_empty, bigSep_empty]
  show iprop(before m c ∗ (dats m 0 c).owesAt () t0_0.castSucc ∗ emp)
    ⊢ runs c (cc0_body (F := F) xM hx oM ho iM hi cM hc cc0_scratch2 cc0_scratch3 cc0_scratch4 cc0_scratch5 cc0_scratch6 cc0_scratch7 cc0_scratch8)
        (fun _ => iprop(after m c ∗ (dats m 0 c).owesAt () t0_0.succ ∗ emp))
  unfold before
  iintro ⟨⟨%K, Hrec, Hit⟩, ⟨%W, -, HO⟩, -⟩
  iapply (runs_body (inputs m) K c _) $$ [Hrec Hit HO]
  · isplitl [Hrec]; · iexact Hrec
    isplitl [Hit]; · iexact Hit
    unfold dueR
    iexists _
    iexact HO
  iintro ⟨Hit, Hdue⟩
  isplitl [Hit]
  · unfold after; iexact Hit
  isplitl [Hdue]
  · unfold dueR
    icases Hdue with ⟨%W', HO⟩
    iexists W'
    isplitr
    · ipureintro; exact Set.subset_union_of_subset_left (Set.subset_univ _) _
    iexact HO
  iempintro

/-! ## The run -/

/-- What a final state is: the result gathered, the input unchanged. -/
def Gathered (r : PUnit × MemSt nD τ sig (Elt F)) : Prop :=
  ∀ c : Dev nD, r.2.mem ((c : Thread nD τ).loc main_v1) = fin (inputs m) c ∧ r.2.mem ((c : Thread nD τ).loc main_arg0) = inputs m c

/-- From any memory with zero counters every run of the kernel ends, with each device's result gathered, its input
    unchanged and every counter at zero. -/
theorem run_all : θ_run defs (onTc (τ := τ) (main (F := F))) ⟨m, fun _ => 0, ρ⟩ (fun r => Gathered m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := fun c => dues c allD) (howed₀ := fun _ => rfl) (howedN := fun _ => rfl)
    (L := L) (lv := lv) (hL := L_of_ne) (hwaits := fun c => Pipeline.cellsWaits_intro cfgs (dats m) () 0 c fun w => w.elim0)
    (G := dealt m) (G' := fun c => iprop(∃ K, known m K ∗ kept (F := F) c)) (u₀ := u₀)
    (hu₀ := by
      unfold u₀
      iintro Hu
      ihave H := (ownU_pair _ _) $$ Hu
      icases H with ⟨HP, HX⟩
      ihave HX := (own_pair_emb embR (initOf cells toks) (1 : Counters)) $$ HX
      icases HX with ⟨HX, -⟩
      imod (fund_all m) $$ HX with HG
      imodintro
      isplitl [HP] <;> iassumption)
    (hglob := all_open m)
    (hA := fun _ w => w.elim0) (hpf := fun _ k => k.elim0)
    (X := start m)
    (Y := fun c => iprop((((c : Thread nD τ).loc main_arg0) ↦{fullShare} inputs m c) ∗ (((c : Thread nD τ).loc main_v1) ↦{fullShare} fin (inputs m) c) ∗ unscopedSems0 c))
    (Z := fun _ => iprop(emp))
    (hX := fun c => by
      unfold start
      iintro ⟨Hmem, Hlev, Hcr, -, HG⟩
      ihave Hmem := (Entails.of_eq ((Pipeline.unscopedRestP_none cfg0.spec c _).trans (unscopedRest0_eq c _))) $$ Hmem
      icases Hmem with ⟨Hx, Ho⟩
      imodintro
      isplitl
      · isplitl [HG]; · iexact HG
        isplitl [Hlev]; · iexact Hlev
        isplitl [Hcr]; · iexact Hcr
        isplitl [Hx] <;> iassumption
      iempintro)
    (hin := fun c => by
      show _ ⊢ before m c
      unfold start before
      iintro ⟨⟨⟨%K, Hkn, Hk⟩, Hlev, Hcr, Hx, Ho⟩, -, Hsc⟩
      iexists K
      isplitl [Hkn Hlev]
      · unfold records known
        isplitl [Hkn] <;> iassumption
      iapply (items_start m c)
      isplitl [Hk]; · iexact Hk
      isplitl [Hcr]; · iexact Hcr
      isplitl [Hx]; · iexact Hx
      isplitl [Ho] <;> iassumption)
    (hout := fun c => items_end m c)
    (QY := fun c s => (s.mem ((c : Thread nD τ).loc main_v1) = fin (inputs m) c ∧ s.mem ((c : Thread nD τ).loc main_arg0) = inputs m c)
      ∧ ∀ sm : SemLoc sig, sm.isScoped .tc = false → s.sem ((c.tc : Thread nD τ), sm) = 0)
    (hY := fun c s' => by
      iintro ⟨⟨Hx, Ho, Hu⟩, -, HSI⟩
      icombine HSI Hx gives %hx
      icombine HSI Ho gives %ho
      imod (Pipeline.unscopedSems0_read (X := unscopedSems0 c) (c := c) fupd_intro s') $$ [Hu HSI] with ⟨%hz, HSI⟩
      · isplitl [Hu] <;> iassumption
      imodintro
      isplitr
      · ipureintro; exact ⟨⟨Buf.eq_of_forall_mem_univ ho, Buf.eq_of_forall_mem_univ hx⟩, hz⟩
      iexact HSI)
    (hQ := fun _ h hs => ⟨fun c => (h c).2.2.1, sem_eq_zero hs fun c => (h c).2.2.2⟩)

end Cert.KernelIdeal.Gather

end
-- ==== Proof.Same.lean ====
/-
  The program as printed is the idealized program's own text, so the run proved of the one is the run of the other.
-/
module

public import proofs.«01_k».proof.Proof.Gen.Kernel
public import proofs.«01_k».proof.Proof.Ideal.Launch

@[expose] public section

set_option maxRecDepth 100000
set_option maxHeartbeats 4000000

noncomputable section

namespace Cert.Gather

open Idealize.ShloMosaic Idealize.SL.Sem

variable {F : FTy → Type} [FloatOps F]

/-- The printed program's run: every device ends with the gathered array, its input and every counter as at the start. -/
theorem kernel_run (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_v1) = Cert.KernelIdeal.Gather.fin (fun c => m ((c.tc : Thread Cert.Kernel.nD Cert.Kernel.τ).loc Cert.Kernel.main_arg0)) c
      ∧ r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) := by
  exact Cert.KernelIdeal.Gather.run_all (F := F) m g

end Cert.Gather
end
-- ==== Proof.Ideal.Value.lean ====
/-
  The gathered contents as a value: when every input is its device's block of one whole array, every result is the
  cast of that array.
-/
module

public import proofs.«01_k».proof.Proof.Ideal.Contents
public import Idealize.ShloMosaic.Lib.Layout

@[expose] public section

noncomputable section

namespace Cert.KernelIdeal.Gather

open Cert.KernelIdeal.Gen
open Idealize.ShloMosaic Idealize.SL.Sem

variable {F : FTy → Type} [FloatOps F]

/-- Device c's block of an array of 32768 rows. -/
abbrev part (c : Dev nD) (w : OIdx → Elt F .f32) : XBuf F :=
  Layout.blockN ⟨2, ![8192, 1024]⟩ ⟨2, ![32768, 1024]⟩ (Layout.meshBlock [2, 2, 4] ![[2], []] c) w

/-- The block's coordinates in the array are the device's place on the z ring, and none. -/
theorem part_coords : ∀ c : Dev nD, Layout.meshLin [2, 2, 4] c.val [2] = zOf c ∧ Layout.meshLin [2, 2, 4] c.val [] = 0 := by
  decide +kernel

/-- The block reads the array at the element whose slab is the device's own. -/
theorem part_inSlab (c : Dev nD) (w : OIdx → Elt F .f32) (i : OIdx) (hi : rowN i / 8192 = zOf c) : part c w (inSlab i) = w i := by
  refine congrArg w (funext fun a => Fin.ext ?_)
  match a with
  | 0 =>
    refine (Layout.TilesN.idx_val _ _ _ _).trans ?_
    show Layout.meshLin [2, 2, 4] c.val [2] * 8192 + rowN i % 8192 = rowN i
    rw [(part_coords c).1]
    omega
  | 1 =>
    refine (Layout.TilesN.idx_val _ _ _ _).trans ?_
    show Layout.meshLin [2, 2, 4] c.val [] * 1024 + colN i = colN i
    rw [(part_coords c).2]
    omega

/-- A named device is on the ring place it was named by. -/
theorem zOf_devAt (z p : ℕ) : zOf (devAt z p) = z % 4 := by
  unfold zOf devAt
  show _ % 16 % 4 = _
  omega

/-- Every device's result is the cast of the whole array. -/
theorem fin_whole (x : Dev nD → XBuf F) (w : OIdx → Elt F .f32) (hx : ∀ c, x c = part c w) (c : Dev nD) :
    fin x c = fun i => cv (w i) := by
  funext i
  have hr := rowN_lt i
  unfold fin
  split
  · next h => rw [hx, part_inSlab c w i h]
  · unfold gathered
    rw [hx, part_inSlab _ w i]
    rw [zOf_devAt]
    omega

end Cert.KernelIdeal.Gather

end
-- ==== Proof.lean ====
/-
  The claims: the two kernels' frames and the two references', and the two equalities, all read off one run of the
  kernel, stated for any floats, and the run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.Same
public import proofs.«01_k».proof.Proof.Ideal.Value
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel := by
  intro m g _
  exact (θ_run Cert.Kernel.defs _ _).mono (fun r h => ⟨fun c => (h.1 c).2, h.2⟩) (Cert.Gather.kernel_run (F := Bits) m g)

theorem frame_ideal : Cert.quiescent_KernelIdeal := by
  intro m g _
  exact (θ_run Cert.KernelIdeal.defs _ _).mono (fun r h => ⟨fun c => (h.1 c).2, h.2⟩) (Cert.KernelIdeal.Gather.run_all (F := Ideal) m g)

/-- A reference declares no semaphore, so no counter of it can differ from zero. -/
theorem frame_reference_ideal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

theorem frame_reference : Cert.quiescent_Reference := by
  intro m g _
  exact (θ_run Cert.Reference.defs _ _).mono (fun r h => ⟨fun c => (h c).2, sem_eq_zero_of_no_sems (by decide) r.2⟩)
    (Cert.Reference.Value.run (F := Bits) m g)

/-- Over the extended reals every device ends with the cast of the reference's input, as the reference does. -/
theorem equal_ideal : Cert.algebraic_KernelIdeal_ReferenceIdeal := by
  intro m g m' g' _ hm
  refine ⟨fun i => Cert.KernelIdeal.Gather.cv (m' ((0 : Dev Cert.ReferenceIdeal.nD).tc.loc Cert.ReferenceIdeal.main_arg0) i), ?_, ?_⟩
  · exact (θ_run Cert.KernelIdeal.defs _ _).mono
      (fun r h c => ⟨(h.1 c).1.trans (Cert.KernelIdeal.Gather.fin_whole _ _ hm c), (h.1 c).2⟩)
      (Cert.KernelIdeal.Gather.run_all (F := Ideal) m g)
  · exact (θ_run Cert.ReferenceIdeal.defs _ _).mono (fun r h => h 0) (Cert.ReferenceIdeal.Value.run (F := Ideal) m' g')

/-- And so does it bit by bit, by the same equation. -/
theorem equal_bits : Cert.bitexact_Kernel_Reference := by
  intro m g m' g' _ hm
  refine ⟨fun i => Cert.KernelIdeal.Gather.cv (m' ((0 : Dev Cert.Reference.nD).tc.loc Cert.Reference.main_arg0) i), ?_, ?_⟩
  · exact (θ_run Cert.Kernel.defs _ _).mono
      (fun r h c => ⟨(h.1 c).1.trans (Cert.KernelIdeal.Gather.fin_whole _ _ hm c), (h.1 c).2⟩)
      (Cert.Gather.kernel_run (F := Bits) m g)
  · exact (θ_run Cert.Reference.defs _ _).mono (fun r h => h 0) (Cert.Reference.Value.run (F := Bits) m' g')

theorem claim : Cert.Claim :=
  ⟨Cert.Kernel.Gen.facts, Cert.KernelIdeal.Gen.facts, Cert.ReferenceIdeal.Gen.facts, Cert.Reference.Gen.facts,
    frame_kernel, frame_ideal, frame_reference_ideal, frame_reference, trivial, equal_ideal, equal_bits⟩

end Cert.Proof

end
